-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_draws [hPre_draws : Cert.Pre_draws.Facts] (m : (ℓ : Loc Cert.KernelIdeal.nD Cert.KernelIdeal.τ Cert.KernelIdeal.sig) → Buf (Elt Ideal) ℓ) : Prop :=
  ∀ c : Dev Cert.KernelIdeal.nD,
    (Cert.Pre_draws.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_draws.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_draws.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_draws.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_draws [hPre_draws : Cert.Pre_draws.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_draws.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_draws.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_draws.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_draws.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_draws [hKernelIdeal : Cert.KernelIdeal.Facts] [hPre_draws : Cert.Pre_draws.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_draws m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_draws [hReferenceIdeal : Cert.ReferenceIdeal.Facts] [hPre_draws : Cert.Pre_draws.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_draws m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "scale" .f32 0x3E13CD3A#32 (((Real.sqrt 48)⁻¹ : ℝ) : EReal)

def algebraic_KernelIdeal_ReferenceIdeal_pre_draws [hKernelIdeal : Cert.KernelIdeal.Facts] [hReferenceIdeal : Cert.ReferenceIdeal.Facts] [hPre_draws : Cert.Pre_draws.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_draws m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_draws : Cert.Pre_draws.Facts),
    quiescent_Kernel (hKernel := hKernel)
    ∧ quiescent_KernelIdeal (hKernelIdeal := hKernelIdeal)
    ∧ quiescent_KernelIdeal_pre_draws (hKernelIdeal := hKernelIdeal) (hPre_draws := hPre_draws)
    ∧ quiescent_ReferenceIdeal (hReferenceIdeal := hReferenceIdeal)
    ∧ quiescent_ReferenceIdeal_pre_draws (hReferenceIdeal := hReferenceIdeal) (hPre_draws := hPre_draws)
    ∧ preserves_Kernel_KernelIdeal
    ∧ algebraic_KernelIdeal_ReferenceIdeal_pre_draws (hKernelIdeal := hKernelIdeal) (hReferenceIdeal := hReferenceIdeal) (hPre_draws := hPre_draws)
-- ==== Pre_draws.lean ====
abbrev S8192x384 : Shape := ⟨2, ![8192, 384]⟩
abbrev S8192x16 : Shape := ⟨2, ![8192, 16]⟩
abbrev S8 : Shape := ⟨1, ![8]⟩
abbrev S8192 : Shape := ⟨1, ![8192]⟩
abbrev S128x128 : Shape := ⟨2, ![128, 128]⟩
abbrev S128 : Shape := ⟨1, ![128]⟩
abbrev S512x128 : Shape := ⟨2, ![512, 128]⟩
abbrev S128x512 : Shape := ⟨2, ![128, 512]⟩
abbrev S8192x128x3 : Shape := ⟨3, ![8192, 128, 3]⟩
abbrev S8192x3x128 : Shape := ⟨3, ![8192, 3, 128]⟩
abbrev S8x1024x8x16x3 : Shape := ⟨5, ![8, 1024, 8, 16, 3]⟩
abbrev S8x8x1024x1024 : Shape := ⟨4, ![8, 8, 1024, 1024]⟩
abbrev S_ : Shape := ⟨0, ![]⟩

class Facts : Prop where
  shapeCasts_S8192x384_S8192x128x3 : S8192x384.ShapeCasts S8192x128x3
  transposes_S8192x3x128_S8192x128x3_0_2_1 : S8192x3x128.Transposes [0, 2, 1] S8192x128x3
  shapeCasts_S8192x128x3_S8x1024x8x16x3 : S8192x128x3.ShapeCasts S8x1024x8x16x3
  bcast_S_S8192x16 : S_.BroadcastsInDim S8192x16 (![] : Fin 0 → Fin S8192x16.rank)
  bcast_S_S8 : S_.BroadcastsInDim S8 (![] : Fin 0 → Fin S8.rank)
  bcast_S_S8192 : S_.BroadcastsInDim S8192 (![] : Fin 0 → Fin S8192.rank)
  bcast_S_S8x8x1024x1024 : S_.BroadcastsInDim S8x8x1024x1024 (![] : Fin 0 → Fin S8x8x1024x1024.rank)
  dot_S8192x128x3_S128x128_S8192x3x128_1_1_02_0_n_n_wf : DotDims.WF S8192x128x3 S128x128 S8192x3x128 [1] [1] [0, 2] [0] [] []
  dot_S8x1024x8x16x3_S8x1024x8x16x3_S8x8x1024x1024_34_34_1_1_02_02_wf : DotDims.WF S8x1024x8x16x3 S8x1024x8x16x3 S8x8x1024x1024 [3, 4] [3, 4] [1] [1] [0, 2] [0, 2]

variable [Facts]

def dot_S8192x128x3_S128x128_S8192x3x128_1_1_02_0_n_n : DotDims S8192x128x3 S128x128 S8192x3x128 where
  lhsContracting := [1]
  rhsContracting := [1]
  lhsNonContracting := [0, 2]
  rhsNonContracting := [0]
  lhsBatch := []
  rhsBatch := []
  wf := dot_S8192x128x3_S128x128_S8192x3x128_1_1_02_0_n_n_wf
def dot_S8x1024x8x16x3_S8x1024x8x16x3_S8x8x1024x1024_34_34_1_1_02_02 : DotDims S8x1024x8x16x3 S8x1024x8x16x3 S8x8x1024x1024 where
  lhsContracting := [3, 4]
  rhsContracting := [3, 4]
  lhsNonContracting := [1]
  rhsNonContracting := [1]
  lhsBatch := [0, 2]
  rhsBatch := [0, 2]
  wf := dot_S8x1024x8x16x3_S8x1024x8x16x3_S8x8x1024x1024_34_34_1_1_02_02_wf
def fn_where {F : FTy → Type} [FloatOps F] (arg0 : IVec S8192 1) (arg1 : IVec S8192 32) (arg2 : IVec S8192 32) : IVec S8192 32 :=
  let v0 : IVec S8192 32 := select arg0 arg1 arg2
  v0

def fn_floor_divide {F : FTy → Type} [FloatOps F] (arg0 : IVec S8192 32) (arg1 : IVec S_ 32) : IVec S8192 32 :=
  let v0 : IVec S_ 32 := id arg1
  let v1 : IVec S8192 32 := broadcastInDim S8192 ![] bcast_S_S8192 v0
  let v2 : IVec S8192 32 := Host.divsi arg0 v1
  let v3 : IVec S8192 32 := signi arg0
  let v4 : IVec S_ 32 := signi v0
  let v5 : IVec S8192 32 := broadcastInDim S8192 ![] bcast_S_S8192 v4
  let v6 : IVec S8192 1 := cmpi .ne v3 v5
  let v7 : IVec S8192 32 := broadcastInDim S8192 ![] bcast_S_S8192 v0
  let v8 : IVec S8192 32 := Host.remsi arg0 v7
  let c : IVec S_ 32 := constantI S_ 32 0#32
  let v9 : IVec S8192 32 := broadcastInDim S8192 ![] bcast_S_S8192 c
  let v10 : IVec S8192 1 := cmpi .ne v8 v9
  let v11 : IVec S8192 1 := andi v6 v10
  let c_0 : IVec S_ 32 := constantI S_ 32 1#32
  let v12 : IVec S8192 32 := broadcastInDim S8192 ![] bcast_S_S8192 c_0
  let v13 : IVec S8192 32 := subi v2 v12
  let v14 : IVec S8192 32 := fn_where (F := F) v11 v13 v2
  v14

def fn {F : FTy → Type} [FloatOps F] (main_arg0 : FVec F S8192x384 .f32) (main_arg1 : IVec S8192x16 32) (main_arg2 : IVec S8 32) (main_arg3 : IVec S8 32) (main_arg4 : IVec S8192 32) (main_arg5 : FVec F S128x128 .f32) (main_arg6 : FVec F S128x128 .f32) (main_arg7 : FVec F S128x128 .f32) (main_arg8 : FVec F S128x128 .f32) (main_arg9 : FVec F S128 .f32) (main_arg10 : FVec F S128 .f32) (main_arg11 : FVec F S512x128 .f32) (main_arg12 : FVec F S512x128 .f32) (main_arg13 : FVec F S128x512 .f32) (main_arg14 : FVec F S128 .f32) (main_arg15 : FVec F S128 .f32) : IVec S8192x16 1 × IVec S8 1 × IVec S8192 1 × IVec S8x8x1024x1024 1 :=
  let main_v0 : FVec F S8192x128x3 .f32 := shapeCast S8192x128x3 main_arg0 shapeCasts_S8192x384_S8192x128x3
  let main_v1 : FVec F S8192x3x128 .f32 := (fun l r => Host.dotGeneral dot_S8192x128x3_S128x128_S8192x3x128_1_1_02_0_n_n none l r) main_v0 main_arg5
  let main_v2 : FVec F S8192x128x3 .f32 := (transpose S8192x128x3 [0, 2, 1] · transposes_S8192x3x128_S8192x128x3_0_2_1) main_v1
  let main_v3 : FVec F S8x1024x8x16x3 .f32 := shapeCast S8x1024x8x16x3 main_v2 shapeCasts_S8192x128x3_S8x1024x8x16x3
  let main_v4 : FVec F S8192x3x128 .f32 := (fun l r => Host.dotGeneral dot_S8192x128x3_S128x128_S8192x3x128_1_1_02_0_n_n none l r) main_v0 main_arg6
  let main_v5 : FVec F S8192x128x3 .f32 := (transpose S8192x128x3 [0, 2, 1] · transposes_S8192x3x128_S8192x128x3_0_2_1) main_v4
  let main_v6 : FVec F S8x1024x8x16x3 .f32 := shapeCast S8x1024x8x16x3 main_v5 shapeCasts_S8192x128x3_S8x1024x8x16x3
  let main_v7 : FVec F S8x8x1024x1024 .f32 := (fun l r => Host.dotGeneral dot_S8x1024x8x16x3_S8x1024x8x16x3_S8x8x1024x1024_34_34_1_1_02_02 none l r) main_v3 main_v6
  let main_c : IVec S_ 32 := constantI S_ 32 1024#32
  let main_v8 : IVec S8192x16 32 := broadcastInDim S8192x16 ![] bcast_S_S8192x16 main_c
  let main_v9 : IVec S8192x16 1 := cmpi .slt main_arg1 main_v8
  let main_c_0 : IVec S_ 32 := constantI S_ 32 1024#32
  let main_v10 : IVec S8 32 := broadcastInDim S8 ![] bcast_S_S8 main_c_0
  let main_v11 : IVec S8 1 := cmpi .eq main_arg3 main_v10
  let main_v12 : IVec S8192 32 := iotaInDim S8192 32 0
  let main_c_1 : IVec S_ 32 := constantI S_ 32 1024#32
  let main_v13 : IVec S8192 32 := fn_floor_divide (F := F) main_v12 main_c_1
  let main_v14 : IVec S8192 1 := cmpi .eq main_arg4 main_v13
  let main_v15 : FVec F S8x8x1024x1024 .f32 := Host.absf main_v7
  let main_cst : FVec F S_ .f32 := constant S_ .f32 0x436B0000#32
  let main_v16 : FVec F S8x8x1024x1024 .f32 := broadcastInDim S8x8x1024x1024 ![] bcast_S_S8x8x1024x1024 main_cst
  let main_v17 : IVec S8x8x1024x1024 1 := cmpf .ole main_v15 main_v16
  (main_v9, main_v11, main_v14, main_v17)
-- ==== Kernel.lean ====
abbrev S8192x384 : Shape := ⟨2, ![8192, 384]⟩
abbrev S8192x16 : Shape := ⟨2, ![8192, 16]⟩
abbrev S8 : Shape := ⟨1, ![8]⟩
abbrev S8192 : Shape := ⟨1, ![8192]⟩
abbrev S128x128 : Shape := ⟨2, ![128, 128]⟩
abbrev S128 : Shape := ⟨1, ![128]⟩
abbrev S512x128 : Shape := ⟨2, ![512, 128]⟩
abbrev S128x512 : Shape := ⟨2, ![128, 512]⟩
abbrev S8192x128x3 : Shape := ⟨3, ![8192, 128, 3]⟩
abbrev S3x8192x128 : Shape := ⟨3, ![3, 8192, 128]⟩
abbrev S_ : Shape := ⟨0, ![]⟩
abbrev S3x128x1024 : Shape := ⟨3, ![3, 128, 1024]⟩
abbrev S128x1 : Shape := ⟨2, ![128, 1]⟩
abbrev S128x2 : Shape := ⟨2, ![128, 2]⟩
abbrev S3x1024x128 : Shape := ⟨3, ![3, 1024, 128]⟩
abbrev S1x128 : Shape := ⟨2, ![1, 128]⟩
abbrev S1024x16 : Shape := ⟨2, ![1024, 16]⟩
abbrev S1x1024x128 : Shape := ⟨3, ![1, 1024, 128]⟩
abbrev S1024x128 : Shape := ⟨2, ![1024, 128]⟩
abbrev S1x128x1024 : Shape := ⟨3, ![1, 128, 1024]⟩
abbrev S128x1024 : Shape := ⟨2, ![128, 1024]⟩
abbrev S1024x1024 : Shape := ⟨2, ![1024, 1024]⟩
abbrev S1024x1 : Shape := ⟨2, ![1024, 1]⟩
abbrev S1024 : Shape := ⟨1, ![1024]⟩
abbrev S1x128x128 : Shape := ⟨3, ![1, 128, 128]⟩
abbrev S1024x512 : Shape := ⟨2, ![1024, 512]⟩

abbrev nBuf : Space → Nat
  | .hbm => 210
  | .vmem => 17
  | .smem => 0
  | _ => 0

abbrev hbmTy0_0 (i : Nat) : BufTy := match i % 128 with
  | 0 => ⟨S8192x384, .f32⟩
  | 1 => ⟨S8192x16, .i32⟩
  | 2 => ⟨S8, .i32⟩
  | 3 => ⟨S8, .i32⟩
  | 4 => ⟨S8192, .i32⟩
  | 5 => ⟨S128x128, .f32⟩
  | 6 => ⟨S128x128, .f32⟩
  | 7 => ⟨S128x128, .f32⟩
  | 8 => ⟨S128x128, .f32⟩
  | 9 => ⟨S128, .f32⟩
  | 10 => ⟨S128, .f32⟩
  | 11 => ⟨S512x128, .f32⟩
  | 12 => ⟨S512x128, .f32⟩
  | 13 => ⟨S128x512, .f32⟩
  | 14 => ⟨S128, .f32⟩
  | 15 => ⟨S128, .f32⟩
  | 16 => ⟨S128, .i32⟩
  | 17 => ⟨S128, .i32⟩
  | 18 => ⟨S128, .i32⟩
  | 19 => ⟨S8192x128x3, .f32⟩
  | 20 => ⟨S3x8192x128, .f32⟩
  | 21 => ⟨S_, .f32⟩
  | 22 => ⟨S3x128x1024, .f32⟩
  | 23 => ⟨S_, .i32⟩
  | 24 => ⟨S128, .i32⟩
  | 25 => ⟨S128, .i1⟩
  | 26 => ⟨S_, .i32⟩
  | 27 => ⟨S128, .i32⟩
  | 28 => ⟨S128, .i32⟩
  | 29 => ⟨S128, .i32⟩
  | 30 => ⟨S_, .i32⟩
  | 31 => ⟨S128, .i32⟩
  | 32 => ⟨S128, .i32⟩
  | 33 => ⟨S128x1, .i32⟩
  | 34 => ⟨S128x1, .i32⟩
  | 35 => ⟨S128x2, .i32⟩
  | 36 => ⟨S3x128x1024, .f32⟩
  | 37 => ⟨S_, .i32⟩
  | 38 => ⟨S128, .i32⟩
  | 39 => ⟨S128, .i1⟩
  | 40 => ⟨S_, .i32⟩
  | 41 => ⟨S128, .i32⟩
  | 42 => ⟨S128, .i32⟩
  | 43 => ⟨S128, .i32⟩
  | 44 => ⟨S_, .i32⟩
  | 45 => ⟨S128, .i32⟩
  | 46 => ⟨S128, .i32⟩
  | 47 => ⟨S128x1, .i32⟩
  | 48 => ⟨S128x1, .i32⟩
  | 49 => ⟨S128x2, .i32⟩
  | 50 => ⟨S3x128x1024, .f32⟩
  | 51 => ⟨S_, .i32⟩
  | 52 => ⟨S128, .i32⟩
  | 53 => ⟨S128, .i1⟩
  | 54 => ⟨S_, .i32⟩
  | 55 => ⟨S128, .i32⟩
  | 56 => ⟨S128, .i32⟩
  | 57 => ⟨S128, .i32⟩
  | 58 => ⟨S_, .i32⟩
  | 59 => ⟨S128, .i32⟩
  | 60 => ⟨S128, .i32⟩
  | 61 => ⟨S128x1, .i32⟩
  | 62 => ⟨S128x1, .i32⟩
  | 63 => ⟨S128x2, .i32⟩
  | 64 => ⟨S3x128x1024, .f32⟩
  | 65 => ⟨S_, .f32⟩
  | 66 => ⟨S3x128x1024, .f32⟩
  | 67 => ⟨S_, .i32⟩
  | 68 => ⟨S128, .i32⟩
  | 69 => ⟨S128, .i1⟩
  | 70 => ⟨S_, .i32⟩
  | 71 => ⟨S128, .i32⟩
  | 72 => ⟨S128, .i32⟩
  | 73 => ⟨S128, .i32⟩
  | 74 => ⟨S_, .i32⟩
  | 75 => ⟨S128, .i32⟩
  | 76 => ⟨S128, .i32⟩
  | 77 => ⟨S128x1, .i32⟩
  | 78 => ⟨S128x1, .i32⟩
  | 79 => ⟨S128x2, .i32⟩
  | 80 => ⟨S3x128x1024, .f32⟩
  | 81 => ⟨S_, .i32⟩
  | 82 => ⟨S128, .i32⟩
  | 83 => ⟨S128, .i1⟩
  | 84 => ⟨S_, .i32⟩
  | 85 => ⟨S128, .i32⟩
  | 86 => ⟨S128, .i32⟩
  | 87 => ⟨S128, .i32⟩
  | 88 => ⟨S_, .i32⟩
  | 89 => ⟨S128, .i32⟩
  | 90 => ⟨S128, .i32⟩
  | 91 => ⟨S128x1, .i32⟩
  | 92 => ⟨S128x1, .i32⟩
  | 93 => ⟨S128x2, .i32⟩
  | 94 => ⟨S3x128x1024, .f32⟩
  | 95 => ⟨S_, .i32⟩
  | 96 => ⟨S128, .i32⟩
  | 97 => ⟨S128, .i1⟩
  | 98 => ⟨S_, .i32⟩
  | 99 => ⟨S128, .i32⟩
  | 100 => ⟨S128, .i32⟩
  | 101 => ⟨S128, .i32⟩
  | 102 => ⟨S_, .i32⟩
  | 103 => ⟨S128, .i32⟩
  | 104 => ⟨S128, .i32⟩
  | 105 => ⟨S128x1, .i32⟩
  | 106 => ⟨S128x1, .i32⟩
  | 107 => ⟨S128x2, .i32⟩
  | 108 => ⟨S3x128x1024, .f32⟩
  | 109 => ⟨S_, .f32⟩
  | 110 => ⟨S3x128x1024, .f32⟩
  | 111 => ⟨S_, .i32⟩
  | 112 => ⟨S128, .i32⟩
  | 113 => ⟨S128, .i1⟩
  | 114 => ⟨S_, .i32⟩
  | 115 => ⟨S128, .i32⟩
  | 116 => ⟨S128, .i32⟩
  | 117 => ⟨S128, .i32⟩
  | 118 => ⟨S_, .i32⟩
  | 119 => ⟨S128, .i32⟩
  | 120 => ⟨S128, .i32⟩
  | 121 => ⟨S128x1, .i32⟩
  | 122 => ⟨S128x1, .i32⟩
  | 123 => ⟨S128x2, .i32⟩
  | 124 => ⟨S3x128x1024, .f32⟩
  | 125 => ⟨S_, .i32⟩
  | 126 => ⟨S128, .i32⟩
  | 127 => ⟨S128, .i1⟩
  | _ => ⟨S8192x384, .f32⟩

abbrev hbmTy0_1 (i : Nat) : BufTy := match i % 128 with
  | 0 => ⟨S_, .i32⟩
  | 1 => ⟨S128, .i32⟩
  | 2 => ⟨S128, .i32⟩
  | 3 => ⟨S128, .i32⟩
  | 4 => ⟨S_, .i32⟩
  | 5 => ⟨S128, .i32⟩
  | 6 => ⟨S128, .i32⟩
  | 7 => ⟨S128x1, .i32⟩
  | 8 => ⟨S128x1, .i32⟩
  | 9 => ⟨S128x2, .i32⟩
  | 10 => ⟨S3x128x1024, .f32⟩
  | 11 => ⟨S_, .i32⟩
  | 12 => ⟨S128, .i32⟩
  | 13 => ⟨S128, .i1⟩
  | 14 => ⟨S_, .i32⟩
  | 15 => ⟨S128, .i32⟩
  | 16 => ⟨S128, .i32⟩
  | 17 => ⟨S128, .i32⟩
  | 18 => ⟨S_, .i32⟩
  | 19 => ⟨S128, .i32⟩
  | 20 => ⟨S128, .i32⟩
  | 21 => ⟨S128x1, .i32⟩
  | 22 => ⟨S128x1, .i32⟩
  | 23 => ⟨S128x2, .i32⟩
  | 24 => ⟨S3x128x1024, .f32⟩
  | 25 => ⟨S_, .f32⟩
  | 26 => ⟨S3x1024x128, .f32⟩
  | 27 => ⟨S128x128, .f32⟩
  | 28 => ⟨S_, .i32⟩
  | 29 => ⟨S128, .i32⟩
  | 30 => ⟨S128, .i1⟩
  | 31 => ⟨S_, .i32⟩
  | 32 => ⟨S128, .i32⟩
  | 33 => ⟨S128, .i32⟩
  | 34 => ⟨S128, .i32⟩
  | 35 => ⟨S_, .i32⟩
  | 36 => ⟨S128, .i32⟩
  | 37 => ⟨S128, .i32⟩
  | 38 => ⟨S128x1, .i32⟩
  | 39 => ⟨S128x1, .i32⟩
  | 40 => ⟨S128x2, .i32⟩
  | 41 => ⟨S3x1024x128, .f32⟩
  | 42 => ⟨S128x128, .f32⟩
  | 43 => ⟨S_, .i32⟩
  | 44 => ⟨S128, .i32⟩
  | 45 => ⟨S128, .i1⟩
  | 46 => ⟨S_, .i32⟩
  | 47 => ⟨S128, .i32⟩
  | 48 => ⟨S128, .i32⟩
  | 49 => ⟨S128, .i32⟩
  | 50 => ⟨S_, .i32⟩
  | 51 => ⟨S128, .i32⟩
  | 52 => ⟨S128, .i32⟩
  | 53 => ⟨S128x1, .i32⟩
  | 54 => ⟨S128x1, .i32⟩
  | 55 => ⟨S128x2, .i32⟩
  | 56 => ⟨S3x1024x128, .f32⟩
  | 57 => ⟨S128x128, .f32⟩
  | 58 => ⟨S_, .i32⟩
  | 59 => ⟨S128, .i32⟩
  | 60 => ⟨S128, .i1⟩
  | 61 => ⟨S_, .i32⟩
  | 62 => ⟨S128, .i32⟩
  | 63 => ⟨S128, .i32⟩
  | 64 => ⟨S128, .i32⟩
  | 65 => ⟨S_, .i32⟩
  | 66 => ⟨S128, .i32⟩
  | 67 => ⟨S128, .i32⟩
  | 68 => ⟨S128x1, .i32⟩
  | 69 => ⟨S128x1, .i32⟩
  | 70 => ⟨S128x2, .i32⟩
  | 71 => ⟨S3x1024x128, .f32⟩
  | 72 => ⟨S128x512, .f32⟩
  | 73 => ⟨S128x512, .f32⟩
  | 74 => ⟨S512x128, .f32⟩
  | 75 => ⟨S1x128, .f32⟩
  | 76 => ⟨S1x128, .f32⟩
  | 77 => ⟨S1x128, .f32⟩
  | 78 => ⟨S1x128, .f32⟩
  | 79 => ⟨S3x8192x128, .f32⟩
  | 80 => ⟨S8192x128x3, .f32⟩
  | 81 => ⟨S8192x384, .f32⟩
  | _ => ⟨S8192x384, .f32⟩

abbrev hbmTy (i : Nat) : BufTy := match i / 128 with
  | 0 => hbmTy0_0 i
  | 1 => hbmTy0_1 i
  | _ => ⟨S8192x384, .f32⟩

abbrev bufTy : (tb : Table) → Fin (tcTables nBuf tb) → BufTy
  | .hbm, ⟨i, _⟩ => hbmTy i
  | .local _ .vmem, ⟨0, _⟩ => ⟨S3x1024x128, .f32⟩
  | .local _ .vmem, ⟨1, _⟩ => ⟨S3x1024x128, .f32⟩
  | .local _ .vmem, ⟨2, _⟩ => ⟨S1024x16, .i32⟩
  | .local _ .vmem, ⟨3, _⟩ => ⟨S1024x16, .i32⟩
  | .local _ .vmem, ⟨4, _⟩ => ⟨S3x128x1024, .f32⟩
  | .local _ .vmem, ⟨5, _⟩ => ⟨S3x128x1024, .f32⟩
  | .local _ .vmem, ⟨6, _⟩ => ⟨S3x128x1024, .f32⟩
  | .local _ .vmem, ⟨7, _⟩ => ⟨S3x1024x128, .f32⟩
  | .local _ .vmem, ⟨8, _⟩ => ⟨S128x512, .f32⟩
  | .local _ .vmem, ⟨9, _⟩ => ⟨S128x512, .f32⟩
  | .local _ .vmem, ⟨10, _⟩ => ⟨S512x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S3x1024x128, .f32⟩
  | .local _ .vmem, ⟨16, _⟩ => ⟨S3x1024x128, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_c_1 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_c_2 : Ref sig .tc := ⟨.hbm, 23, rfl⟩
abbrev main_v3 : Ref sig .tc := ⟨.hbm, 24, rfl⟩
abbrev main_v4 : Ref sig .tc := ⟨.hbm, 25, rfl⟩
abbrev main_c_3 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_4 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_5 : Ref sig .tc := ⟨.hbm, 37, rfl⟩
abbrev main_v14 : Ref sig .tc := ⟨.hbm, 38, rfl⟩
abbrev main_v15 : Ref sig .tc := ⟨.hbm, 39, rfl⟩
abbrev main_c_6 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_7 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_8 : Ref sig .tc := ⟨.hbm, 51, rfl⟩
abbrev main_v25 : Ref sig .tc := ⟨.hbm, 52, rfl⟩
abbrev main_v26 : Ref sig .tc := ⟨.hbm, 53, rfl⟩
abbrev main_c_9 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_10 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_11 : Ref sig .tc := ⟨.hbm, 65, rfl⟩
abbrev main_v36 : Ref sig .tc := ⟨.hbm, 66, rfl⟩
abbrev main_c_12 : Ref sig .tc := ⟨.hbm, 67, rfl⟩
abbrev main_v37 : Ref sig .tc := ⟨.hbm, 68, rfl⟩
abbrev main_v38 : Ref sig .tc := ⟨.hbm, 69, rfl⟩
abbrev main_c_13 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_c_14 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_15 : Ref sig .tc := ⟨.hbm, 81, rfl⟩
abbrev main_v48 : Ref sig .tc := ⟨.hbm, 82, rfl⟩
abbrev main_v49 : Ref sig .tc := ⟨.hbm, 83, rfl⟩
abbrev main_c_16 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_17 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_c_18 : Ref sig .tc := ⟨.hbm, 95, rfl⟩
abbrev main_v59 : Ref sig .tc := ⟨.hbm, 96, rfl⟩
abbrev main_v60 : Ref sig .tc := ⟨.hbm, 97, rfl⟩
abbrev main_c_19 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_c_20 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_21 : Ref sig .tc := ⟨.hbm, 109, rfl⟩
abbrev main_v70 : Ref sig .tc := ⟨.hbm, 110, rfl⟩
abbrev main_c_22 : Ref sig .tc := ⟨.hbm, 111, rfl⟩
abbrev main_v71 : Ref sig .tc := ⟨.hbm, 112, rfl⟩
abbrev main_v72 : Ref sig .tc := ⟨.hbm, 113, rfl⟩
abbrev main_c_23 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_c_24 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_c_25 : Ref sig .tc := ⟨.hbm, 125, rfl⟩
abbrev main_v82 : Ref sig .tc := ⟨.hbm, 126, rfl⟩
abbrev main_v83 : Ref sig .tc := ⟨.hbm, 127, rfl⟩
abbrev main_c_26 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_c_27 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_c_28 : Ref sig .tc := ⟨.hbm, 139, rfl⟩
abbrev main_v93 : Ref sig .tc := ⟨.hbm, 140, rfl⟩
abbrev main_v94 : Ref sig .tc := ⟨.hbm, 141, rfl⟩
abbrev main_c_29 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_c_30 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_cst_31 : Ref sig .tc := ⟨.hbm, 153, rfl⟩
abbrev main_v104 : Ref sig .tc := ⟨.hbm, 154, rfl⟩
abbrev main_v105 : Ref sig .tc := ⟨.hbm, 155, rfl⟩
abbrev main_c_32 : Ref sig .tc := ⟨.hbm, 156, rfl⟩
abbrev main_v106 : Ref sig .tc := ⟨.hbm, 157, rfl⟩
abbrev main_v107 : Ref sig .tc := ⟨.hbm, 158, rfl⟩
abbrev main_c_33 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_c_34 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_c_35 : Ref sig .tc := ⟨.hbm, 171, rfl⟩
abbrev main_v118 : Ref sig .tc := ⟨.hbm, 172, rfl⟩
abbrev main_v119 : Ref sig .tc := ⟨.hbm, 173, rfl⟩
abbrev main_c_36 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_c_37 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_c_38 : Ref sig .tc := ⟨.hbm, 186, rfl⟩
abbrev main_v130 : Ref sig .tc := ⟨.hbm, 187, rfl⟩
abbrev main_v131 : Ref sig .tc := ⟨.hbm, 188, rfl⟩
abbrev main_c_39 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_c_40 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S3x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S3x1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "scale" => some (((Real.sqrt 48)⁻¹ : ℝ) : EReal)
  | _ => none
-- ==== ReferenceIdeal.lean ====
abbrev S8192x384 : Shape := ⟨2, ![8192, 384]⟩
abbrev S8192x16 : Shape := ⟨2, ![8192, 16]⟩
abbrev S8 : Shape := ⟨1, ![8]⟩
abbrev S8192 : Shape := ⟨1, ![8192]⟩
abbrev S128x128 : Shape := ⟨2, ![128, 128]⟩
abbrev S128 : Shape := ⟨1, ![128]⟩
abbrev S512x128 : Shape := ⟨2, ![512, 128]⟩
abbrev S128x512 : Shape := ⟨2, ![128, 512]⟩
abbrev S8192x128x3 : Shape := ⟨3, ![8192, 128, 3]⟩
abbrev S8192x3x128 : Shape := ⟨3, ![8192, 3, 128]⟩
abbrev S_ : Shape := ⟨0, ![]⟩
abbrev S1 : Shape := ⟨1, ![1]⟩
abbrev S7 : Shape := ⟨1, ![7]⟩
abbrev S8192x1 : Shape := ⟨2, ![8192, 1]⟩
abbrev S8192x16x1 : Shape := ⟨3, ![8192, 16, 1]⟩
abbrev S8192x16x128x3 : Shape := ⟨4, ![8192, 16, 128, 3]⟩
abbrev S8192x8x16x3 : Shape := ⟨4, ![8192, 8, 16, 3]⟩
abbrev S8192x16x8x16x3 : Shape := ⟨5, ![8192, 16, 8, 16, 3]⟩
abbrev S8192x8x16 : Shape := ⟨3, ![8192, 8, 16]⟩
abbrev S8192x1x16 : Shape := ⟨3, ![8192, 1, 16]⟩
abbrev S8192x8 : Shape := ⟨2, ![8192, 8]⟩
abbrev S8192x8x1 : Shape := ⟨3, ![8192, 8, 1]⟩
abbrev S8192x128 : Shape := ⟨2, ![8192, 128]⟩
abbrev S8192x128x1 : Shape := ⟨3, ![8192, 128, 1]⟩
abbrev S8192x1x1 : Shape := ⟨3, ![8192, 1, 1]⟩
abbrev S1x128x1 : Shape := ⟨3, ![1, 128, 1]⟩
abbrev S8192x3x512 : Shape := ⟨3, ![8192, 3, 512]⟩
abbrev S8192x512x3 : Shape := ⟨3, ![8192, 512, 3]⟩
abbrev S8192x512 : Shape := ⟨2, ![8192, 512]⟩
abbrev S8192x512x1 : Shape := ⟨3, ![8192, 512, 1]⟩

abbrev nBuf : Space → Nat
  | .hbm => 246
  | .vmem => 0
  | .smem => 0
  | _ => 0

abbrev hbmTy0_0 (i : Nat) : BufTy := match i % 128 with
  | 0 => ⟨S8192x384, .f32⟩
  | 1 => ⟨S8192x16, .i32⟩
  | 2 => ⟨S8, .i32⟩
  | 3 => ⟨S8, .i32⟩
  | 4 => ⟨S8192, .i32⟩
  | 5 => ⟨S128x128, .f32⟩
  | 6 => ⟨S128x128, .f32⟩
  | 7 => ⟨S128x128, .f32⟩
  | 8 => ⟨S128x128, .f32⟩
  | 9 => ⟨S128, .f32⟩
  | 10 => ⟨S128, .f32⟩
  | 11 => ⟨S512x128, .f32⟩
  | 12 => ⟨S512x128, .f32⟩
  | 13 => ⟨S128x512, .f32⟩
  | 14 => ⟨S128, .f32⟩
  | 15 => ⟨S128, .f32⟩
  | 16 => ⟨S8192x128x3, .f32⟩
  | 17 => ⟨S8192x3x128, .f32⟩
  | 18 => ⟨S8192x128x3, .f32⟩
  | 19 => ⟨S8192x3x128, .f32⟩
  | 20 => ⟨S8192x128x3, .f32⟩
  | 21 => ⟨S8192x3x128, .f32⟩
  | 22 => ⟨S8192x128x3, .f32⟩
  | 23 => ⟨S_, .i32⟩
  | 24 => ⟨S_, .i32⟩
  | 25 => ⟨S8, .i32⟩
  | 26 => ⟨S_, .i32⟩
  | 27 => ⟨S1, .i32⟩
  | 28 => ⟨S7, .i32⟩
  | 29 => ⟨S8, .i32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S8192, .i32⟩
  | 39 => ⟨S_, .i32⟩
  | 40 => ⟨S8192x16, .i32⟩
  | 41 => ⟨S8192x16, .i1⟩
  | 42 => ⟨S_, .i32⟩
  | 43 => ⟨S_, .i32⟩
  | 44 => ⟨S8192x16, .i32⟩
  | 45 => ⟨S8192x16, .i32⟩
  | 46 => ⟨S8192x1, .i32⟩
  | 47 => ⟨S8192x16, .i32⟩
  | 48 => ⟨S8192x16, .i32⟩
  | 49 => ⟨S_, .i32⟩
  | 50 => ⟨S8192x16, .i32⟩
  | 51 => ⟨S8192x16, .i1⟩
  | 52 => ⟨S_, .i32⟩
  | 53 => ⟨S8192x16, .i32⟩
  | 54 => ⟨S8192x16, .i32⟩
  | 55 => ⟨S8192x16, .i32⟩
  | 56 => ⟨S8192x16x1, .i32⟩
  | 57 => ⟨S8192x16x128x3, .f32⟩
  | 58 => ⟨S_, .i32⟩
  | 59 => ⟨S8192x16, .i32⟩
  | 60 => ⟨S8192x16, .i1⟩
  | 61 => ⟨S_, .i32⟩
  | 62 => ⟨S8192x16, .i32⟩
  | 63 => ⟨S8192x16, .i32⟩
  | 64 => ⟨S8192x16, .i32⟩
  | 65 => ⟨S8192x16x1, .i32⟩
  | 66 => ⟨S8192x16x128x3, .f32⟩
  | 67 => ⟨S8192x8x16x3, .f32⟩
  | 68 => ⟨S8192x16x8x16x3, .f32⟩
  | 69 => ⟨S8192x8x16, .f32⟩
  | 70 => ⟨S_, .f32⟩
  | 71 => ⟨S_, .f32⟩
  | 72 => ⟨S8192x8x16, .f32⟩
  | 73 => ⟨S8192x8x16, .f32⟩
  | 74 => ⟨S8192x1x16, .i1⟩
  | 75 => ⟨S_, .f32⟩
  | 76 => ⟨S_, .f32⟩
  | 77 => ⟨S8192x8x16, .i1⟩
  | 78 => ⟨S8192x8x16, .f32⟩
  | 79 => ⟨S8192x8x16, .f32⟩
  | 80 => ⟨S_, .f32⟩
  | 81 => ⟨S8192x8, .f32⟩
  | 82 => ⟨S_, .f32⟩
  | 83 => ⟨S8192x8, .f32⟩
  | 84 => ⟨S8192x8, .f32⟩
  | 85 => ⟨S8192x8x1, .f32⟩
  | 86 => ⟨S8192x8x16, .f32⟩
  | 87 => ⟨S8192x8x16, .f32⟩
  | 88 => ⟨S8192x8x16, .f32⟩
  | 89 => ⟨S_, .f32⟩
  | 90 => ⟨S8192x8, .f32⟩
  | 91 => ⟨S8192x8x1, .f32⟩
  | 92 => ⟨S8192x8x16, .f32⟩
  | 93 => ⟨S8192x8x16, .f32⟩
  | 94 => ⟨S8192x1x16, .i1⟩
  | 95 => ⟨S_, .f32⟩
  | 96 => ⟨S_, .f32⟩
  | 97 => ⟨S8192x8x16, .i1⟩
  | 98 => ⟨S8192x8x16, .f32⟩
  | 99 => ⟨S8192x8x16, .f32⟩
  | 100 => ⟨S8192x16x8x16x3, .f32⟩
  | 101 => ⟨S8192x8x16x3, .f32⟩
  | 102 => ⟨S8192x128x3, .f32⟩
  | 103 => ⟨S8192x3x128, .f32⟩
  | 104 => ⟨S8192x128x3, .f32⟩
  | 105 => ⟨S8192x128x3, .f32⟩
  | 106 => ⟨S8192x128x3, .f32⟩
  | 107 => ⟨S_, .f32⟩
  | 108 => ⟨S8192x128, .f32⟩
  | 109 => ⟨S8192x128x1, .f32⟩
  | 110 => ⟨S8192x128x1, .f32⟩
  | 111 => ⟨S_, .f32⟩
  | 112 => ⟨S8192x1, .f32⟩
  | 113 => ⟨S8192x1x1, .f32⟩
  | 114 => ⟨S_, .f32⟩
  | 115 => ⟨S8192x1x1, .f32⟩
  | 116 => ⟨S8192x1x1, .f32⟩
  | 117 => ⟨S_, .i32⟩
  | 118 => ⟨S_, .f32⟩
  | 119 => ⟨S8192x1, .f32⟩
  | 120 => ⟨S8192x1x1, .f32⟩
  | 121 => ⟨S_, .f32⟩
  | 122 => ⟨S8192x1x1, .f32⟩
  | 123 => ⟨S8192x1x1, .f32⟩
  | 124 => ⟨S8192x128x1, .f32⟩
  | 125 => ⟨S8192x128x1, .f32⟩
  | 126 => ⟨S8192x128x1, .f32⟩
  | 127 => ⟨S_, .f32⟩
  | _ => ⟨S8192x384, .f32⟩

abbrev hbmTy0_1 (i : Nat) : BufTy := match i % 128 with
  | 0 => ⟨S_, .f32⟩
  | 1 => ⟨S_, .f32⟩
  | 2 => ⟨S_, .f32⟩
  | 3 => ⟨S8192x1, .f32⟩
  | 4 => ⟨S8192x1x1, .f32⟩
  | 5 => ⟨S8192x1x1, .f32⟩
  | 6 => ⟨S8192x1x1, .f32⟩
  | 7 => ⟨S_, .f32⟩
  | 8 => ⟨S_, .i1⟩
  | 9 => ⟨S_, .f32⟩
  | 10 => ⟨S_, .f32⟩
  | 11 => ⟨S8192x1x1, .f32⟩
  | 12 => ⟨S8192x1x1, .f32⟩
  | 13 => ⟨S8192x128x1, .f32⟩
  | 14 => ⟨S8192x128x1, .f32⟩
  | 15 => ⟨S_, .f32⟩
  | 16 => ⟨S8192x1x1, .f32⟩
  | 17 => ⟨S8192x1x1, .f32⟩
  | 18 => ⟨S8192x1x1, .f32⟩
  | 19 => ⟨S8192x128x1, .f32⟩
  | 20 => ⟨S8192x128x1, .f32⟩
  | 21 => ⟨S1x128x1, .f32⟩
  | 22 => ⟨S8192x128x1, .f32⟩
  | 23 => ⟨S8192x128x1, .f32⟩
  | 24 => ⟨S1x128x1, .f32⟩
  | 25 => ⟨S8192x128x1, .f32⟩
  | 26 => ⟨S8192x128x1, .f32⟩
  | 27 => ⟨S_, .f32⟩
  | 28 => ⟨S8192x128x1, .f32⟩
  | 29 => ⟨S8192x128x1, .f32⟩
  | 30 => ⟨S8192x128x3, .f32⟩
  | 31 => ⟨S8192x128x3, .f32⟩
  | 32 => ⟨S8192x128x3, .f32⟩
  | 33 => ⟨S8192x128x3, .f32⟩
  | 34 => ⟨S8192x3x512, .f32⟩
  | 35 => ⟨S8192x512x3, .f32⟩
  | 36 => ⟨S8192x3x512, .f32⟩
  | 37 => ⟨S8192x512x3, .f32⟩
  | 38 => ⟨S8192x512x3, .f32⟩
  | 39 => ⟨S_, .f32⟩
  | 40 => ⟨S8192x512, .f32⟩
  | 41 => ⟨S8192x512x1, .f32⟩
  | 42 => ⟨S8192x512x3, .f32⟩
  | 43 => ⟨S_, .f32⟩
  | 44 => ⟨S8192x512, .f32⟩
  | 45 => ⟨S8192x512x1, .f32⟩
  | 46 => ⟨S_, .f32⟩
  | 47 => ⟨S8192x512x1, .f32⟩
  | 48 => ⟨S8192x512x1, .f32⟩
  | 49 => ⟨S_, .f32⟩
  | 50 => ⟨S8192x512x1, .f32⟩
  | 51 => ⟨S8192x512x1, .i1⟩
  | 52 => ⟨S8192x512x1, .f32⟩
  | 53 => ⟨S8192x512x3, .f32⟩
  | 54 => ⟨S8192x512x3, .f32⟩
  | 55 => ⟨S8192x512x3, .f32⟩
  | 56 => ⟨S8192x512x3, .i1⟩
  | 57 => ⟨S8192x512x3, .f32⟩
  | 58 => ⟨S8192x3x128, .f32⟩
  | 59 => ⟨S8192x128x3, .f32⟩
  | 60 => ⟨S8192x128x3, .f32⟩
  | 61 => ⟨S8192x128x3, .f32⟩
  | 62 => ⟨S_, .f32⟩
  | 63 => ⟨S8192x128, .f32⟩
  | 64 => ⟨S8192x128x1, .f32⟩
  | 65 => ⟨S8192x128x1, .f32⟩
  | 66 => ⟨S_, .f32⟩
  | 67 => ⟨S8192x1, .f32⟩
  | 68 => ⟨S8192x1x1, .f32⟩
  | 69 => ⟨S_, .f32⟩
  | 70 => ⟨S8192x1x1, .f32⟩
  | 71 => ⟨S8192x1x1, .f32⟩
  | 72 => ⟨S_, .i32⟩
  | 73 => ⟨S_, .f32⟩
  | 74 => ⟨S8192x1, .f32⟩
  | 75 => ⟨S8192x1x1, .f32⟩
  | 76 => ⟨S_, .f32⟩
  | 77 => ⟨S8192x1x1, .f32⟩
  | 78 => ⟨S8192x1x1, .f32⟩
  | 79 => ⟨S8192x128x1, .f32⟩
  | 80 => ⟨S8192x128x1, .f32⟩
  | 81 => ⟨S8192x128x1, .f32⟩
  | 82 => ⟨S_, .f32⟩
  | 83 => ⟨S_, .f32⟩
  | 84 => ⟨S_, .f32⟩
  | 85 => ⟨S_, .f32⟩
  | 86 => ⟨S8192x1, .f32⟩
  | 87 => ⟨S8192x1x1, .f32⟩
  | 88 => ⟨S8192x1x1, .f32⟩
  | 89 => ⟨S8192x1x1, .f32⟩
  | 90 => ⟨S_, .f32⟩
  | 91 => ⟨S_, .i1⟩
  | 92 => ⟨S_, .f32⟩
  | 93 => ⟨S_, .f32⟩
  | 94 => ⟨S8192x1x1, .f32⟩
  | 95 => ⟨S8192x1x1, .f32⟩
  | 96 => ⟨S8192x128x1, .f32⟩
  | 97 => ⟨S8192x128x1, .f32⟩
  | 98 => ⟨S_, .f32⟩
  | 99 => ⟨S8192x1x1, .f32⟩
  | 100 => ⟨S8192x1x1, .f32⟩
  | 101 => ⟨S8192x1x1, .f32⟩
  | 102 => ⟨S8192x128x1, .f32⟩
  | 103 => ⟨S8192x128x1, .f32⟩
  | 104 => ⟨S1x128x1, .f32⟩
  | 105 => ⟨S8192x128x1, .f32⟩
  | 106 => ⟨S8192x128x1, .f32⟩
  | 107 => ⟨S1x128x1, .f32⟩
  | 108 => ⟨S8192x128x1, .f32⟩
  | 109 => ⟨S8192x128x1, .f32⟩
  | 110 => ⟨S_, .f32⟩
  | 111 => ⟨S8192x128x1, .f32⟩
  | 112 => ⟨S8192x128x1, .f32⟩
  | 113 => ⟨S8192x128x3, .f32⟩
  | 114 => ⟨S8192x128x3, .f32⟩
  | 115 => ⟨S8192x128x3, .f32⟩
  | 116 => ⟨S8192x128x3, .f32⟩
  | 117 => ⟨S8192x384, .f32⟩
  | _ => ⟨S8192x384, .f32⟩

abbrev hbmTy (i : Nat) : BufTy := match i / 128 with
  | 0 => hbmTy0_0 i
  | 1 => hbmTy0_1 i
  | _ => ⟨S8192x384, .f32⟩

abbrev bufTy : (tb : Table) → Fin (tcTables nBuf tb) → BufTy
  | .hbm, ⟨i, _⟩ => hbmTy i
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call0_call0_c : Ref sig .tc := ⟨.hbm, 23, rfl⟩
abbrev main_call0_call0_v0 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_0 : Ref sig .tc := ⟨.hbm, 30, rfl⟩
abbrev main_v11 : Ref sig .tc := ⟨.hbm, 31, rfl⟩
abbrev main_v12 : Ref sig .tc := ⟨.hbm, 32, rfl⟩
abbrev main_c_1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_c_3 : Ref sig .tc := ⟨.hbm, 42, rfl⟩
abbrev main_call1_v0 : Ref sig .tc := ⟨.hbm, 43, rfl⟩
abbrev main_call1_v1 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_4 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_8 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v45 : Ref sig .tc := ⟨.hbm, 79, rfl⟩
abbrev main_cst_9 : Ref sig .tc := ⟨.hbm, 80, rfl⟩
abbrev main_v46 : Ref sig .tc := ⟨.hbm, 81, rfl⟩
abbrev main_cst_10 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_11 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_12 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_call4_v0 : Ref sig .tc := ⟨.hbm, 106, rfl⟩
abbrev main_call4_cst : Ref sig .tc := ⟨.hbm, 107, rfl⟩
abbrev main_call4_v1 : Ref sig .tc := ⟨.hbm, 108, rfl⟩
abbrev main_call4_v2 : Ref sig .tc := ⟨.hbm, 109, rfl⟩
abbrev main_v65 : Ref sig .tc := ⟨.hbm, 110, rfl⟩
abbrev main_cst_13 : Ref sig .tc := ⟨.hbm, 111, rfl⟩
abbrev main_v66 : Ref sig .tc := ⟨.hbm, 112, rfl⟩
abbrev main_v67 : Ref sig .tc := ⟨.hbm, 113, rfl⟩
abbrev main_cst_14 : Ref sig .tc := ⟨.hbm, 114, rfl⟩
abbrev main_v68 : Ref sig .tc := ⟨.hbm, 115, rfl⟩
abbrev main_v69 : Ref sig .tc := ⟨.hbm, 116, rfl⟩
abbrev main_c_15 : Ref sig .tc := ⟨.hbm, 117, rfl⟩
abbrev main_call5_cst : Ref sig .tc := ⟨.hbm, 118, rfl⟩
abbrev main_call5_v0 : Ref sig .tc := ⟨.hbm, 119, rfl⟩
abbrev main_call5_v1 : Ref sig .tc := ⟨.hbm, 120, rfl⟩
abbrev main_call5_cst_0 : Ref sig .tc := ⟨.hbm, 121, rfl⟩
abbrev main_call5_v2 : Ref sig .tc := ⟨.hbm, 122, rfl⟩
abbrev main_call5_v3 : Ref sig .tc := ⟨.hbm, 123, rfl⟩
abbrev main_call5_v4 : Ref sig .tc := ⟨.hbm, 124, rfl⟩
abbrev main_call5_v5 : Ref sig .tc := ⟨.hbm, 125, rfl⟩
abbrev main_call5_v6 : Ref sig .tc := ⟨.hbm, 126, rfl⟩
abbrev main_call5_v7 : Ref sig .tc := ⟨.hbm, 127, rfl⟩
abbrev main_call5_cst_1 : Ref sig .tc := ⟨.hbm, 128, rfl⟩
abbrev main_call5_v8 : Ref sig .tc := ⟨.hbm, 129, rfl⟩
abbrev main_call5_cst_2 : Ref sig .tc := ⟨.hbm, 130, rfl⟩
abbrev main_call5_v9 : Ref sig .tc := ⟨.hbm, 131, rfl⟩
abbrev main_call5_v10 : Ref sig .tc := ⟨.hbm, 132, rfl⟩
abbrev main_call5_v11 : Ref sig .tc := ⟨.hbm, 133, rfl⟩
abbrev main_call5_v12 : Ref sig .tc := ⟨.hbm, 134, rfl⟩
abbrev main_call5_cst_3 : Ref sig .tc := ⟨.hbm, 135, rfl⟩
abbrev main_call5_v13 : Ref sig .tc := ⟨.hbm, 136, rfl⟩
abbrev main_call5_cst_4 : Ref sig .tc := ⟨.hbm, 137, rfl⟩
abbrev main_call5_call0_v0 : Ref sig .tc := ⟨.hbm, 138, rfl⟩
abbrev main_call5_call0_v1 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_cst_16 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_cst_17 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_cst_18 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_cst_19 : Ref sig .tc := ⟨.hbm, 171, rfl⟩
abbrev main_v98 : Ref sig .tc := ⟨.hbm, 172, rfl⟩
abbrev main_v99 : Ref sig .tc := ⟨.hbm, 173, rfl⟩
abbrev main_cst_20 : Ref sig .tc := ⟨.hbm, 174, rfl⟩
abbrev main_v100 : Ref sig .tc := ⟨.hbm, 175, rfl⟩
abbrev main_v101 : Ref sig .tc := ⟨.hbm, 176, rfl⟩
abbrev main_cst_21 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_call6_v0 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_call7_v0 : Ref sig .tc := ⟨.hbm, 189, rfl⟩
abbrev main_call7_cst : Ref sig .tc := ⟨.hbm, 190, rfl⟩
abbrev main_call7_v1 : Ref sig .tc := ⟨.hbm, 191, rfl⟩
abbrev main_call7_v2 : Ref sig .tc := ⟨.hbm, 192, rfl⟩
abbrev main_v112 : Ref sig .tc := ⟨.hbm, 193, rfl⟩
abbrev main_cst_22 : Ref sig .tc := ⟨.hbm, 194, rfl⟩
abbrev main_v113 : Ref sig .tc := ⟨.hbm, 195, rfl⟩
abbrev main_v114 : Ref sig .tc := ⟨.hbm, 196, rfl⟩
abbrev main_cst_23 : Ref sig .tc := ⟨.hbm, 197, rfl⟩
abbrev main_v115 : Ref sig .tc := ⟨.hbm, 198, rfl⟩
abbrev main_v116 : Ref sig .tc := ⟨.hbm, 199, rfl⟩
abbrev main_c_24 : Ref sig .tc := ⟨.hbm, 200, rfl⟩
abbrev main_call8_cst : Ref sig .tc := ⟨.hbm, 201, rfl⟩
abbrev main_call8_v0 : Ref sig .tc := ⟨.hbm, 202, rfl⟩
abbrev main_call8_v1 : Ref sig .tc := ⟨.hbm, 203, rfl⟩
abbrev main_call8_cst_0 : Ref sig .tc := ⟨.hbm, 204, rfl⟩
abbrev main_call8_v2 : Ref sig .tc := ⟨.hbm, 205, rfl⟩
abbrev main_call8_v3 : Ref sig .tc := ⟨.hbm, 206, rfl⟩
abbrev main_call8_v4 : Ref sig .tc := ⟨.hbm, 207, rfl⟩
abbrev main_call8_v5 : Ref sig .tc := ⟨.hbm, 208, rfl⟩
abbrev main_call8_v6 : Ref sig .tc := ⟨.hbm, 209, rfl⟩
abbrev main_call8_v7 : Ref sig .tc := ⟨.hbm, 210, rfl⟩
abbrev main_call8_cst_1 : Ref sig .tc := ⟨.hbm, 211, rfl⟩
abbrev main_call8_v8 : Ref sig .tc := ⟨.hbm, 212, rfl⟩
abbrev main_call8_cst_2 : Ref sig .tc := ⟨.hbm, 213, rfl⟩
abbrev main_call8_v9 : Ref sig .tc := ⟨.hbm, 214, rfl⟩
abbrev main_call8_v10 : Ref sig .tc := ⟨.hbm, 215, rfl⟩
abbrev main_call8_v11 : Ref sig .tc := ⟨.hbm, 216, rfl⟩
abbrev main_call8_v12 : Ref sig .tc := ⟨.hbm, 217, rfl⟩
abbrev main_call8_cst_3 : Ref sig .tc := ⟨.hbm, 218, rfl⟩
abbrev main_call8_v13 : Ref sig .tc := ⟨.hbm, 219, rfl⟩
abbrev main_call8_cst_4 : Ref sig .tc := ⟨.hbm, 220, rfl⟩
abbrev main_call8_call0_v0 : Ref sig .tc := ⟨.hbm, 221, rfl⟩
abbrev main_call8_call0_v1 : Ref sig .tc := ⟨.hbm, 222, rfl⟩
abbrev main_v117 : Ref sig .tc := ⟨.hbm, 223, rfl⟩
abbrev main_v118 : Ref sig .tc := ⟨.hbm, 224, rfl⟩
abbrev main_v119 : Ref sig .tc := ⟨.hbm, 225, rfl⟩
abbrev main_cst_25 : Ref sig .tc := ⟨.hbm, 226, rfl⟩
abbrev main_v120 : Ref sig .tc := ⟨.hbm, 227, rfl⟩
abbrev main_v121 : Ref sig .tc := ⟨.hbm, 228, rfl⟩
abbrev main_v122 : Ref sig .tc := ⟨.hbm, 229, rfl⟩
abbrev main_v123 : Ref sig .tc := ⟨.hbm, 230, rfl⟩
abbrev main_v124 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_v130 : Ref sig .tc := ⟨.hbm, 237, rfl⟩
abbrev main_cst_26 : Ref sig .tc := ⟨.hbm, 238, rfl⟩
abbrev main_v131 : Ref sig .tc := ⟨.hbm, 239, rfl⟩
abbrev main_v132 : Ref sig .tc := ⟨.hbm, 240, rfl⟩
abbrev main_v133 : Ref sig .tc := ⟨.hbm, 241, rfl⟩
abbrev main_v134 : Ref sig .tc := ⟨.hbm, 242, rfl⟩
abbrev main_v135 : Ref sig .tc := ⟨.hbm, 243, rfl⟩
abbrev main_v136 : Ref sig .tc := ⟨.hbm, 244, rfl⟩
abbrev main_v137 : Ref sig .tc := ⟨.hbm, 245, rfl⟩

abbrev nD : Nat := 1
abbrev τ : Topo := Topo.v7x

variable {F : FTy → Type} [FloatOps F]
-- ==== Proof.Vectors.lean ====
/- The kernel body's vectors, written once each: the projection of the rows by a packed weight, the number of times a
   key is listed, one head of the attention, the output projection, the two layer normalisations and the feed-forward
   layer. The body repeats the head eight times; here it is one definition, taken at the head's column offset. The last
   part states that the values the body's stores name are these. -/
module

public import proofs.«01_k».proof.Proof.Gen.KernelIdeal.Frame
public import Idealize.ShloMosaic.Lib.Pointwise

@[expose] public section

set_option maxRecDepth 16384
set_option maxHeartbeats 2000000

noncomputable section

namespace Cert.Proof

open Idealize.ShloMosaic Idealize.ShloMosaic.TcCoe Idealize.SL.Sem
open Cert.KernelIdeal Cert.KernelIdeal.Gen

/-! ## Pieces of the blocks -/

/-- Component `d` of the block of rows. -/
def rowsV (x : Vec Ideal S3x1024x128 .f32) : Fin 3 → FVec Ideal S1024x128 .f32
  | 0 => k0_pay3 (View.ld x r0_0)
  | 1 => k0_pay3 (View.ld x r0_1)
  | 2 => k0_pay3 (View.ld x r0_2)

/-- Component `d` of a packed projection weight. -/
def packV (w : Vec Ideal S3x128x1024 .f32) : Fin 3 → FVec Ideal S1x128x1024 .f32
  | 0 => View.ld w r0_3
  | 1 => View.ld w r0_4
  | 2 => View.ld w r0_5

/-- Column `l` of the block of key indices lies inside it. -/
theorem col_inb (l : Fin 16) : ∀ a, (![0, l.val] : Fin 2 → ℕ) a + S1024x1.size a ≤ S1024x16.size a := by
  decide +revert +kernel

/-- Column `l` of the block of key indices. -/
def colV (x : Vec Ideal S1024x16 .i32) (l : Fin 16) : Vec Ideal S1024x1 .i32 :=
  View.ld x (Rect.unit (s := S1024x16) ![0, l.val] S1024x1.size (col_inb l))

/-- The rows of head `h` of component `d` of the output weight lie inside it. -/
theorem po_inb (d : Fin 3) (h : Fin 8) :
    ∀ a, (![d.val, h.val * 128, 0] : Fin 3 → ℕ) a + S1x128x128.size a ≤ S3x1024x128.size a := by
  decide +revert +kernel

/-- The rows of head `h` of component `d` of the output weight. -/
def poV (x : Vec Ideal S3x1024x128 .f32) (d : Fin 3) (h : Fin 8) : FVec Ideal S1x128x128 .f32 :=
  View.ld x (Rect.unit (s := S3x1024x128) ![d.val, h.val * 128, 0] S1x128x128.size (po_inb d h))

/-- The columns of head `h` lie inside the packed ones. -/
theorem head_slices (h : Fin 8) : S1024x1024.Slices ![0, h.val * 128] S1024x128 := by
  fin_cases h <;> first
    | exact slices_S1024x1024_o0_0_S1024x128
    | exact slices_S1024x1024_o0_128_S1024x128
    | exact slices_S1024x1024_o0_256_S1024x128
    | exact slices_S1024x1024_o0_384_S1024x128
    | exact slices_S1024x1024_o0_512_S1024x128
    | exact slices_S1024x1024_o0_640_S1024x128
    | exact slices_S1024x1024_o0_768_S1024x128
    | exact slices_S1024x1024_o0_896_S1024x128

/-- The columns of head `h`. -/
def headCols (h : Fin 8) (v : FVec Ideal S1024x1024 .f32) : FVec Ideal S1024x128 .f32 :=
  extractStridedSlice S1024x128 ![0, h.val * 128] v (head_slices h)

/-! ## The attention -/

/-- The rows times a packed weight: the three components' products, added up. -/
def projV (x : Fin 3 → FVec Ideal S1024x128 .f32) (w : Fin 3 → FVec Ideal S1x128x1024 .f32) : FVec Ideal S1024x1024 .f32 :=
  let p (d : Fin 3) : FVec Ideal S1024x1024 .f32 :=
    matmul dot_S1024x128_S128x1024_S1024x1024_1_0_0_1_n_n none (x d) (shapeCast S128x1024 (w d) shapeCasts_S1x128x1024_S128x1024)
      (constant S1024x1024 .f32 0x00000000#32)
  addf (addf (addf (broadcast S1024x1024 (Scalar.ofBits .f32 0x00000000#32)) (p 0)) (p 1)) (p 2)

/-- One column of key indices counted: one more for each key a row lists in it. -/
def tallyV (acc : FVec Ideal S1024x1024 .f32) (col : Vec Ideal S1024x1 .i32) : FVec Ideal S1024x1024 .f32 :=
  addf acc (select
    (andi (cmpi .eq (broadcastTo S1024x1024 col broadcasts_S1024x1_S1024x1024) (iota .tc S1024x1024 32 [1] iota_S1024x1024_d1_w32))
      (broadcastTo S1024x1024 (cmpi .sge col (broadcast S1024x1 0#32)) broadcasts_S1024x1_S1024x1024))
    (broadcast S1024x1024 (Scalar.ofBits .f32 0x3F800000#32)) (broadcast S1024x1024 (Scalar.ofBits .f32 0x00000000#32)))

/-- How often each row lists each key, over the sixteen columns. -/
def countV (c : Fin 16 → Vec Ideal S1024x1 .i32) : FVec Ideal S1024x1024 .f32 :=
  tallyV (tallyV (tallyV (tallyV (tallyV (tallyV (tallyV (tallyV (tallyV (tallyV (tallyV (tallyV (tallyV (tallyV (tallyV (tallyV
    (broadcast S1024x1024 (Scalar.ofBits .f32 0x00000000#32)) (c 0)) (c 1)) (c 2)) (c 3)) (c 4)) (c 5)) (c 6)) (c 7)) (c 8)) (c 9))
    (c 10)) (c 11)) (c 12)) (c 13)) (c 14)) (c 15)

/-- The scaled scores of head `h`. -/
def scoreV (h : Fin 8) (q k : FVec Ideal S1024x1024 .f32) : FVec Ideal S1024x1024 .f32 :=
  mulf (matmul dot_S1024x128_S1024x128_S1024x1024_1_1_0_0_n_n (some .fp32) (headCols h q) (headCols h k)
    (constant S1024x1024 .f32 0x00000000#32)) (broadcast S1024x1024 (Named.named κ "scale" 0x3E13CD3A#32))

/-- The exponentials of the scores less their row's largest, each times how often its key is listed. -/
def weightV (s mult : FVec Ideal S1024x1024 .f32) : FVec Ideal S1024x1024 .f32 :=
  mulf (exp (subf s (broadcastTo S1024x1024 (shapeCast S1024x1
    (multiReduction .maximumf [1] S1024 s 0xFF800000#32 reduces_S1024x1024_S1024 (.inl rfl) rfl) shapeCasts_S1024_S1024x1)
    broadcasts_S1024x1_S1024x1024))) mult

/-- The weights over their row's sum. -/
def normV (e : FVec Ideal S1024x1024 .f32) : FVec Ideal S1024x1024 .f32 :=
  mulf e (broadcastTo S1024x1024 (divf (broadcast S1024x1 (Scalar.ofBits .f32 0x3F800000#32))
    (maximumf (shapeCast S1024x1 (multiReduction .add [1] S1024 e 0x00000000#32 reduces_S1024x1024_S1024 (.inl rfl) rfl)
      shapeCasts_S1024_S1024x1) (broadcast S1024x1 (Scalar.ofBits .f32 0x0DA24260#32)))) broadcasts_S1024x1_S1024x1024)

/-- Head `h`: the normalised weights times the values. -/
def headV (h : Fin 8) (q k v mult : FVec Ideal S1024x1024 .f32) : FVec Ideal S1024x128 .f32 :=
  matmul dot_S1024x1024_S1024x128_S1024x128_1_0_0_1_n_n (some .fp32) (normV (weightV (scoreV h q k) mult)) (headCols h v)
    (constant S1024x128 .f32 0x00000000#32)

/-- One head's output projection, added to what the heads before it gave. -/
def gatherV (acc oh : FVec Ideal S1024x128 .f32) (po : FVec Ideal S1x128x128 .f32) : FVec Ideal S1024x128 .f32 :=
  addf acc (matmul dot_S1024x128_S128x128_S1024x128_1_0_0_1_n_n none oh (shapeCast S128x128 po shapeCasts_S1x128x128_S128x128)
    (constant S1024x128 .f32 0x00000000#32))

/-- The eight heads' output projections, added up. -/
def mergeV (oh : Fin 8 → FVec Ideal S1024x128 .f32) (po : Fin 8 → FVec Ideal S1x128x128 .f32) : FVec Ideal S1024x128 .f32 :=
  gatherV (gatherV (gatherV (gatherV (gatherV (gatherV (gatherV (gatherV (broadcast S1024x128 (Scalar.ofBits .f32 0x00000000#32))
    (oh 0) (po 0)) (oh 1) (po 1)) (oh 2) (po 2)) (oh 3) (po 3)) (oh 4) (po 4)) (oh 5) (po 5)) (oh 6) (po 6)) (oh 7) (po 7)

/-! ## The layers after it -/

/-- The factor a layer normalisation multiplies every component of a vector by. -/
def lnV (y : Fin 3 → FVec Ideal S1024x128 .f32) (g b : FVec Ideal S1x128 .f32) : FVec Ideal S1024x128 .f32 :=
  let n : FVec Ideal S1024x128 .f32 := sqrt (addf (addf (mulf (y 0) (y 0)) (mulf (y 1) (y 1))) (mulf (y 2) (y 2)))
  let mean (v : FVec Ideal S1024x128 .f32) : FVec Ideal S1024x1 .f32 :=
    divf (shapeCast S1024x1 (multiReduction .add [1] S1024 v 0x00000000#32 reduces_S1024x128_S1024 (.inl rfl) rfl) shapeCasts_S1024_S1024x1)
      (broadcast S1024x1 (Scalar.ofBits .f32 0x43000000#32))
  let cc : FVec Ideal S1024x128 .f32 := subf n (broadcastTo S1024x128 (mean n) broadcasts_S1024x1_S1024x128)
  divf (addf (mulf (mulf cc (broadcastTo S1024x128 (rsqrt (addf (mean (mulf cc cc))
      (broadcast S1024x1 (Scalar.ofBits .f32 0x358637BD#32)))) broadcasts_S1024x1_S1024x128))
      (broadcastTo S1024x128 (shapeCast S1x128 g shapeCasts_S1x128_S1x128) broadcasts_S1x128_S1024x128))
      (broadcastTo S1024x128 (shapeCast S1x128 b shapeCasts_S1x128_S1x128) broadcasts_S1x128_S1024x128))
    (addf n (broadcast S1024x128 (Scalar.ofBits .f32 0x358637BD#32)))

/-- A layer normalisation of the three components. -/
def normedV (y : Fin 3 → FVec Ideal S1024x128 .f32) (g b : FVec Ideal S1x128 .f32) (d : Fin 3) : FVec Ideal S1024x128 .f32 :=
  mulf (y d) (lnV y g b)

/-- The rows times a feed-forward weight. -/
def widenV (y : FVec Ideal S1024x128 .f32) (w : FVec Ideal S128x512 .f32) : FVec Ideal S1024x512 .f32 :=
  matmul dot_S1024x128_S128x512_S1024x512_1_0_0_1_n_n none y (shapeCast S128x512 w shapeCasts_S128x512_S128x512)
    (constant S1024x512 .f32 0x00000000#32)

/-- The share of the direction taken off: none where the two agree in sign, the projection on it elsewhere. -/
def shareV (a b : Fin 3 → FVec Ideal S1024x512 .f32) : FVec Ideal S1024x512 .f32 :=
  let dt : FVec Ideal S1024x512 .f32 := addf (addf (mulf (a 0) (b 0)) (mulf (a 1) (b 1))) (mulf (a 2) (b 2))
  let sq : FVec Ideal S1024x512 .f32 := addf (addf (addf (mulf (b 0) (b 0)) (mulf (b 1) (b 1))) (mulf (b 2) (b 2)))
    (broadcast S1024x512 (Scalar.ofBits .f32 0x358637BD#32))
  select (cmpf .oge dt (broadcast S1024x512 (Scalar.ofBits .f32 0x00000000#32)))
    (broadcast S1024x512 (Scalar.ofBits .f32 0x00000000#32)) (divf dt sq)

/-- The feed-forward layer's component `d`, added to its input. -/
def ffV (y : Fin 3 → FVec Ideal S1024x128 .f32) (w wd : FVec Ideal S128x512 .f32) (w2 : FVec Ideal S512x128 .f32) (d : Fin 3) :
    FVec Ideal S1024x128 .f32 :=
  addf (y d) (matmul dot_S1024x512_S512x128_S1024x128_1_0_0_1_n_n none
    (subf (widenV (y d) w) (mulf (shareV (fun d => widenV (y d) w) (fun d => widenV (y d) wd)) (widenV (y d) wd)))
    (shapeCast S512x128 w2 shapeCasts_S512x128_S512x128) (constant S1024x128 .f32 0x00000000#32))

/-! ## The values of the body -/

section
variable (x0 : Vec Ideal S3x1024x128 .f32) (x1 : Vec Ideal S1024x16 .i32) (x2 x3 x4 : Vec Ideal S3x128x1024 .f32)
  (x5 : Vec Ideal S3x1024x128 .f32) (x6 x7 : Vec Ideal S128x512 .f32) (x8 : Vec Ideal S512x128 .f32)
  (x9 x10 x11 x12 : Vec Ideal S1x128 .f32)

/-- The rows after the attention and its residual, component `d`. -/
def attendedV (d : Fin 3) : FVec Ideal S1024x128 .f32 :=
  addf (rowsV x0 d) (mergeV (fun h => headV h (projV (rowsV x0) (packV x2)) (projV (rowsV x0) (packV x3))
    (projV (rowsV x0) (packV x4)) (countV (colV x1))) (poV x5 d))

/-- The rows after the first layer normalisation, component `d`. -/
def firstV : Fin 3 → FVec Ideal S1024x128 .f32 :=
  normedV (attendedV x0 x1 x2 x3 x4 x5) (View.ld x9 r0_46) (View.ld x10 r0_46)

/-- The rows the block leaves, component `d`. -/
def lastV : Fin 3 → FVec Ideal S1024x128 .f32 :=
  normedV (ffV (firstV x0 x1 x2 x3 x4 x5 x9 x10) (View.ld x6 r0_47) (View.ld x7 r0_47) (View.ld x8 r0_48))
    (View.ld x11 r0_46) (View.ld x12 r0_46)

/-- What the block is left holding, component `d` at piece `d`. -/
def outV : FVec Ideal S3x1024x128 .f32 :=
  View.canon (Val := Elt Ideal) (e := .f32)
    [⟨r0_2, k0_pay2 (lastV x0 x1 x2 x3 x4 x5 x6 x7 x8 x9 x10 x11 x12 2)⟩, ⟨r0_1, k0_pay1 (lastV x0 x1 x2 x3 x4 x5 x6 x7 x8 x9 x10 x11 x12 1)⟩, ⟨r0_0, k0_pay1 (lastV x0 x1 x2 x3 x4 x5 x6 x7 x8 x9 x10 x11 x12 0)⟩]

theorem q_eq : k0_pay83 x0 x1 x2 x3 x4 x5 x6 x7 x8 x9 x10 x11 x12 = projV (rowsV x0) (packV x2) := rfl
theorem k_eq : k0_pay85 x0 x1 x2 x3 x4 x5 x6 x7 x8 x9 x10 x11 x12 = projV (rowsV x0) (packV x3) := rfl
theorem v_eq : k0_pay86 x0 x1 x2 x3 x4 x5 x6 x7 x8 x9 x10 x11 x12 = projV (rowsV x0) (packV x4) := rfl
theorem count_eq : k0_pay87 x0 x1 x2 x3 x4 x5 x6 x7 x8 x9 x10 x11 x12 = countV (colV x1) := rfl

theorem attended0_eq : k0_pay96 x0 x1 x2 x3 x4 x5 x6 x7 x8 x9 x10 x11 x12 = attendedV x0 x1 x2 x3 x4 x5 0 := rfl
theorem attended1_eq : k0_pay97 x0 x1 x2 x3 x4 x5 x6 x7 x8 x9 x10 x11 x12 = attendedV x0 x1 x2 x3 x4 x5 1 := rfl
theorem attended2_eq : k0_pay98 x0 x1 x2 x3 x4 x5 x6 x7 x8 x9 x10 x11 x12 = attendedV x0 x1 x2 x3 x4 x5 2 := rfl

theorem first0_eq : k0_pay99 x0 x1 x2 x3 x4 x5 x6 x7 x8 x9 x10 x11 x12 = firstV x0 x1 x2 x3 x4 x5 x9 x10 0 := by
  unfold k0_pay99; rw [attended0_eq, attended1_eq, attended2_eq]; rfl
theorem first1_eq : k0_pay100 x0 x1 x2 x3 x4 x5 x6 x7 x8 x9 x10 x11 x12 = firstV x0 x1 x2 x3 x4 x5 x9 x10 1 := by
  unfold k0_pay100; rw [attended0_eq, attended1_eq, attended2_eq]; rfl
theorem first2_eq : k0_pay101 x0 x1 x2 x3 x4 x5 x6 x7 x8 x9 x10 x11 x12 = firstV x0 x1 x2 x3 x4 x5 x9 x10 2 := by
  unfold k0_pay101; rw [attended0_eq, attended1_eq, attended2_eq]; rfl

theorem ff0_eq : k0_pay105 x0 x1 x2 x3 x4 x5 x6 x7 x8 x9 x10 x11 x12 = ffV (firstV x0 x1 x2 x3 x4 x5 x9 x10) (View.ld x6 r0_47) (View.ld x7 r0_47) (View.ld x8 r0_48) 0 := by
  unfold k0_pay105 k0_pay102 k0_pay103 k0_pay104
  rw [first0_eq, first1_eq, first2_eq, attended0_eq, attended1_eq, attended2_eq]; rfl
theorem ff1_eq : k0_pay106 x0 x1 x2 x3 x4 x5 x6 x7 x8 x9 x10 x11 x12 = ffV (firstV x0 x1 x2 x3 x4 x5 x9 x10) (View.ld x6 r0_47) (View.ld x7 r0_47) (View.ld x8 r0_48) 1 := by
  unfold k0_pay106 k0_pay102 k0_pay103 k0_pay104
  rw [first0_eq, first1_eq, first2_eq, attended0_eq, attended1_eq, attended2_eq]; rfl
theorem ff2_eq : k0_pay75 (k0_pay101 x0 x1 x2 x3 x4 x5 x6 x7 x8 x9 x10 x11 x12) (k0_pay107 x0 x1 x2 x3 x4 x5 x6 x7 x8 x9 x10 x11 x12) (View.ld x8 r0_48)
    = ffV (firstV x0 x1 x2 x3 x4 x5 x9 x10) (View.ld x6 r0_47) (View.ld x7 r0_47) (View.ld x8 r0_48) 2 := by
  unfold k0_pay107 k0_pay102 k0_pay103 k0_pay104
  rw [first0_eq, first1_eq, first2_eq, attended0_eq, attended1_eq, attended2_eq]; rfl

/-- The block's value is the one written above. -/
theorem out_eq : out0_13 x0 x1 x2 x3 x4 x5 x6 x7 x8 x9 x10 x11 x12 = outV x0 x1 x2 x3 x4 x5 x6 x7 x8 x9 x10 x11 x12 := by
  unfold out0_13 k0_pay78 k0_pay77 k0_pay79 k0_pay76
  rw [ff0_eq, ff1_eq, ff2_eq]; rfl

end

end Cert.Proof
-- ==== Proof.Layers.lean ====
/- The layers after the attention, for one row: a layer normalisation of the vectors' lengths, the feed-forward layer
   with its rectifier along a direction, and a second layer normalisation; written as the kernel computes them and as
   the reference does, and equal at every extended real. -/
module

public import Idealize.ShloMosaic.Lib.Pointwise
public import Idealize.ShloMosaic.Lib.IdealHost

@[expose] public section

noncomputable section

namespace Cert.Proof

open Idealize.ShloMosaic

/-- The small number added under square roots and to divisors. -/
def small : EReal := Ideal.ofBits .f32 0x358637BD#32

/-- The number of channels. -/
def width : EReal := Ideal.ofBits .f32 0x43000000#32

/-- A row: three components of 128 channels. -/
abbrev Row := Fin 3 → Fin 128 → EReal

theorem small_pos : 0 < small := by
  unfold small
  simp [Ideal.ofBits, Ideal.ieee]
  norm_cast
  positivity

theorem width_eq : width = ((128 : ℝ) : EReal) := by
  unfold width
  simp [Ideal.ofBits, Ideal.ieee, -EReal.coe_mul]
  norm_num

theorem mul_self_nonneg (a : EReal) : 0 ≤ a * a := by
  induction a with
  | bot => simp
  | top => simp
  | coe r => exact_mod_cast _root_.mul_self_nonneg r

theorem sqrt_nonneg {a : EReal} (h : 0 ≤ a) : 0 ≤ Ideal.sqrt a := by
  induction a with
  | bot => simp at h
  | top => simp
  | coe r =>
    have h' : ¬ r < 0 := not_lt.2 (by exact_mod_cast h)
    rw [Ideal.sqrt_coe, if_neg h']
    exact_mod_cast Real.sqrt_nonneg r

/-- The small number added to something nonnegative is positive. -/
theorem pos_add {a : EReal} (h : 0 ≤ a) : 0 < a + small :=
  lt_of_lt_of_le small_pos (le_add_of_nonneg_left h)

/-- Over something positive, a quotient is a product by the inverse. -/
theorem div_of_pos {z : EReal} (h : 0 < z) (c : EReal) : Ideal.div c z = c * z⁻¹ := by
  rw [Ideal.div, if_neg h.ne']

/-- The product by the inverse square root is the quotient by the square root. -/
theorem mul_rsqrt {z : EReal} (h : 0 < z) (c : EReal) : c * Ideal.rsqrt z = Ideal.div c (Ideal.sqrt z) := by
  induction z with
  | bot => simp at h
  | top => simp [Ideal.div]
  | coe r =>
    have h' : 0 < r := by exact_mod_cast h
    have hs : 0 < Real.sqrt r := Real.sqrt_pos.2 h'
    rw [Ideal.rsqrt_coe, Ideal.sqrt_coe, if_neg (not_lt.2 h'.le), if_neg h'.ne', if_neg (not_lt.2 h'.le),
      div_of_pos (by exact_mod_cast hs), EReal.coe_inv]

/-! ## The layer normalisation -/

/-- The length of the row's vector at a channel. -/
def len (y : Row) (c : Fin 128) : EReal := Ideal.sqrt (y 0 c * y 0 c + y 1 c * y 1 c + y 2 c * y 2 c)

/-- The mean over the channels. -/
def mean (n : Fin 128 → EReal) : EReal := Ideal.div (∑ c, n c) width

/-- A length less the mean length. -/
def dev (y : Row) (c : Fin 128) : EReal := len y c - mean (len y)

/-- The variance of the lengths, and the small number. -/
def spread (y : Row) : EReal := mean (fun c => dev y c * dev y c) + small

/-- The layer normalisation as the kernel computes it. -/
def normK (y : Row) (g b : Fin 128 → EReal) (d : Fin 3) (c : Fin 128) : EReal :=
  y d c * Ideal.div (dev y c * Ideal.rsqrt (spread y) * g c + b c) (len y c + small)

/-- The layer normalisation as the reference computes it. -/
def normR (y : Row) (g b : Fin 128 → EReal) (d : Fin 3) (c : Fin 128) : EReal :=
  Ideal.div (y d c) (len y c + small) * (Ideal.div (dev y c) (Ideal.sqrt (spread y)) * g c + b c)

theorem len_nonneg (y : Row) (c : Fin 128) : 0 ≤ len y c :=
  sqrt_nonneg (add_nonneg (add_nonneg (mul_self_nonneg _) (mul_self_nonneg _)) (mul_self_nonneg _))

theorem spread_pos (y : Row) : 0 < spread y := by
  refine pos_add ?_
  unfold mean
  rw [width_eq, Ideal.div_coe (by norm_num)]
  refine mul_nonneg (Finset.sum_nonneg fun c _ => mul_self_nonneg _) ?_
  have : (0 : ℝ) ≤ 1 / 128 := by norm_num
  exact_mod_cast this

/-- The two layer normalisations agree. -/
theorem norm_eq (y : Row) (g b : Fin 128 → EReal) : normK y g b = normR y g b := by
  funext d c
  unfold normK normR
  have hl : 0 < len y c + small := pos_add (len_nonneg y c)
  rw [mul_rsqrt (spread_pos y), div_of_pos hl, div_of_pos hl]
  rw [mul_comm (_ + _) (len y c + small)⁻¹, ← mul_assoc]

/-! ## The feed-forward layer -/

/-- One component of a row times a feed-forward weight. -/
def wide (y : Fin 128 → EReal) (w : Fin 512 → Fin 128 → EReal) (e : Fin 512) : EReal := ∑ c, y c * w e c

/-- The row's product with a direction. -/
def along (y : Row) (w wd : Fin 512 → Fin 128 → EReal) (e : Fin 512) : EReal :=
  wide (y 0) w e * wide (y 0) wd e + wide (y 1) w e * wide (y 1) wd e + wide (y 2) w e * wide (y 2) wd e

/-- The direction's squared length, and the small number. -/
def square (y : Row) (wd : Fin 512 → Fin 128 → EReal) (e : Fin 512) : EReal :=
  wide (y 0) wd e * wide (y 0) wd e + wide (y 1) wd e * wide (y 1) wd e + wide (y 2) wd e * wide (y 2) wd e + small

/-- The rectified component as the kernel computes it: the share of the direction, nothing where they agree, taken off. -/
def rectK (y : Row) (w wd : Fin 512 → Fin 128 → EReal) (d : Fin 3) (e : Fin 512) : EReal :=
  wide (y d) w e - (if 0 ≤ along y w wd e then 0 else Ideal.div (along y w wd e) (square y wd e)) * wide (y d) wd e

/-- The rectified component as the reference computes it. -/
def rectR (y : Row) (w wd : Fin 512 → Fin 128 → EReal) (d : Fin 3) (e : Fin 512) : EReal :=
  if 0 ≤ along y w wd e then wide (y d) w e
  else wide (y d) w e - Ideal.div (along y w wd e) (square y wd e) * wide (y d) wd e

theorem rect_eq (y : Row) (w wd : Fin 512 → Fin 128 → EReal) : rectK y w wd = rectR y w wd := by
  funext d e
  unfold rectK rectR
  split_ifs <;> simp

/-- The feed-forward layer added to its input, from the rectified components. -/
def feed (y : Row) (z : Fin 3 → Fin 512 → EReal) (w2 : Fin 128 → Fin 512 → EReal) (d : Fin 3) (c : Fin 128) : EReal :=
  y d c + ∑ e, z d e * w2 c e

/-! ## The layers together -/

/-- The weights of the layers after the attention. -/
structure Params where
  g1 : Fin 128 → EReal
  b1 : Fin 128 → EReal
  w : Fin 512 → Fin 128 → EReal
  wd : Fin 512 → Fin 128 → EReal
  w2 : Fin 128 → Fin 512 → EReal
  g2 : Fin 128 → EReal
  b2 : Fin 128 → EReal

/-- The layers as the kernel computes them. -/
def layersK (p : Params) (y : Row) : Row :=
  let u := normK y p.g1 p.b1
  normK (feed u (rectK u p.w p.wd) p.w2) p.g2 p.b2

/-- The layers as the reference computes them. -/
def layersR (p : Params) (y : Row) : Row :=
  let u := normR y p.g1 p.b1
  normR (feed u (rectR u p.w p.wd) p.w2) p.g2 p.b2

/-- The layers agree. -/
theorem layers_eq (p : Params) (y : Row) : layersK p y = layersR p y := by
  unfold layersK layersR
  simp only [norm_eq, rect_eq]

end Cert.Proof
-- ==== Proof.Softmax.lean ====
/- One head's attention of one row. The kernel weighs all 1024 keys, each by how often the row lists it; the reference
   weighs the sixteen listed keys, those with a negative index masked. Both normalise the exponentials of the scores,
   the kernel after taking off the largest of all scores and the reference the largest of the listed ones: where the
   scores are real and close enough together that the kernel's sum stays above the bound it divides by at least, the two
   agree at any values. -/
module

public import Idealize.ShloMosaic.Lib.Pointwise
public import Idealize.ShloMosaic.Lib.IdealHost

@[expose] public section

noncomputable section

namespace Cert.Proof

open Idealize.ShloMosaic

/-- The least number the kernel divides by. -/
def tiny : EReal := Ideal.ofBits .f32 0x0DA24260#32

theorem tiny_le : tiny ≤ ((Real.exp (-68) : ℝ) : EReal) := by
  have h : tiny = ((10633824 / 2 ^ 123 : ℝ) : EReal) := by
    unfold tiny
    simp [Ideal.ofBits, Ideal.ieee, -EReal.coe_mul]
    norm_num
  rw [h, EReal.coe_le_coe_iff]
  have h1 : Real.exp (-68) = (Real.exp 1 ^ 68)⁻¹ := by rw [← Real.exp_nat_mul, ← Real.exp_neg]; norm_num
  have h2 : Real.exp 1 ≤ 2.75 := by
    refine (Real.exp_bound' (n := 6) zero_le_one le_rfl (by norm_num)).trans ?_
    simp [Finset.sum_range_succ, Nat.factorial]
    norm_num
  rw [h1]
  have h3 : Real.exp 1 ^ 68 ≤ 2.75 ^ 68 := pow_le_pow_left₀ (Real.exp_pos 1).le h2 68
  refine le_trans ?_ (inv_anti₀ (pow_pos (Real.exp_pos 1) 68) h3)
  norm_num

/-- How often the row lists key `j`. -/
def listed (valid : Fin 16 → Prop) [DecidablePred valid] (key : Fin 16 → Fin 1024) (j : Fin 1024) : EReal :=
  ∑ l, if valid l ∧ key l = j then 1 else 0

/-- The kernel's weight of key `j`, before the division. -/
def weightK (s m : Fin 1024 → EReal) (j : Fin 1024) : EReal :=
  Ideal.exp (s j - Finset.univ.fold max ⊥ s) * m j

/-- The kernel's head: the weights over their sum, times the values. -/
def headK (s m v : Fin 1024 → EReal) : EReal :=
  ∑ j, weightK s m j * Ideal.div 1 (max (∑ i, weightK s m i) tiny) * v j

/-- The scores of the listed keys, those of a negative index at `-∞`. -/
def masked (valid : Fin 16 → Prop) [DecidablePred valid] (s : Fin 16 → EReal) (l : Fin 16) : EReal :=
  if valid l then s l else ⊥

/-- The reference's weight of a listed key, before the division. -/
def weightR (valid : Fin 16 → Prop) [DecidablePred valid] (s : Fin 16 → EReal) (l : Fin 16) : EReal :=
  Ideal.exp (masked valid s l - Finset.univ.fold max ⊥ (masked valid s))

/-- The reference's head. -/
def headR (valid : Fin 16 → Prop) [DecidablePred valid] (s v : Fin 16 → EReal) : EReal :=
  ∑ l, (if valid l then Ideal.div (weightR valid s l) (∑ i, weightR valid s i) else 0) * v l

/-- A sum of reals, as an extended real. -/
theorem coe_total {ι : Type} (t : Finset ι) (f : ι → ℝ) : ((∑ l ∈ t, f l : ℝ) : EReal) = ∑ l ∈ t, (f l : EReal) := by
  classical
  induction t using Finset.induction_on with
  | empty => simp
  | insert a t ha ih => rw [Finset.sum_insert ha, Finset.sum_insert ha, EReal.coe_add, ih]

/-- A count times something is that thing added up so often. -/
theorem count_mul {ι : Type} (t : Finset ι) (p : ι → Prop) [DecidablePred p] (x : EReal) :
    (∑ l ∈ t, if p l then (1 : EReal) else 0) * x = ∑ l ∈ t, if p l then x else 0 := by
  classical
  induction t using Finset.induction_on with
  | empty => simp
  | insert a t ha ih =>
    rw [Finset.sum_insert ha, Finset.sum_insert ha, EReal.right_distrib_of_nonneg, ih]
    · split_ifs <;> simp
    · split_ifs <;> simp
    · exact Finset.sum_nonneg fun l _ => by split_ifs <;> simp

/-- The largest of real values, one of them attained: the extended reals' fold is that real. -/
theorem fold_max_eq {ι : Type} [Fintype ι] (f : ι → EReal) (i : ι) (h : ∀ j, f j ≤ f i) :
    Finset.univ.fold max ⊥ f = f i := by
  refine le_antisymm ?_ ?_
  · exact (Finset.sup_le fun j _ => h j : Finset.univ.sup f ≤ f i)
  · exact (Finset.le_sup (Finset.mem_univ i) : f i ≤ Finset.univ.sup f)

/-- The weights the kernel adds up are those of the listed keys. -/
theorem sum_listed (valid : Fin 16 → Prop) [DecidablePred valid] (key : Fin 16 → Fin 1024) (f : Fin 1024 → EReal) :
    ∑ j, listed valid key j * f j = ∑ l, if valid l then f (key l) else 0 := by
  simp only [listed, count_mul]
  rw [Finset.sum_comm]
  refine Finset.sum_congr rfl fun l _ => ?_
  by_cases hv : valid l <;> simp [hv]

theorem head_eq (valid : Fin 16 → Prop) [DecidablePred valid] (key : Fin 16 → Fin 1024) (s v : Fin 1024 → EReal)
    (σ : Fin 1024 → ℝ) (hσ : ∀ j, s j = (σ j : EReal)) (hb : ∀ j, |σ j| ≤ 34) :
    headK s (listed valid key) v = headR valid (fun l => s (key l)) (fun l => v (key l)) := by
  obtain ⟨top, -, htop⟩ := Finset.exists_max_image Finset.univ σ ⟨0, Finset.mem_univ _⟩
  have hfold : Finset.univ.fold max ⊥ s = (σ top : EReal) := by
    rw [fold_max_eq s top fun j => by rw [hσ, hσ, EReal.coe_le_coe_iff]; exact htop j (Finset.mem_univ _), hσ]
  have hw : ∀ j, weightK s (listed valid key) j = listed valid key j * (Real.exp (σ j - σ top) : ℝ) := fun j => by
    unfold weightK
    rw [hfold, hσ, ← EReal.coe_sub, Ideal.exp_coe, mul_comm]
  unfold headK headR
  simp only [hw]
  set r := Ideal.div 1 (max (∑ i, listed valid key i * ((Real.exp (σ i - σ top) : ℝ) : EReal)) tiny) with hr
  have h1 : ∀ j, listed valid key j * ((Real.exp (σ j - σ top) : ℝ) : EReal) * r * v j
      = listed valid key j * (((Real.exp (σ j - σ top) : ℝ) : EReal) * r * v j) := fun j => by
    simp only [mul_assoc]
  simp only [h1]
  rw [sum_listed valid key fun j => ((Real.exp (σ j - σ top) : ℝ) : EReal) * r * v j]
  refine Finset.sum_congr rfl fun l _ => ?_
  by_cases hv : valid l
  swap
  · simp [hv]
  rw [if_pos hv, if_pos hv]
  congr 1
  -- the sums, as reals
  have hD : ∑ i, listed valid key i * ((Real.exp (σ i - σ top) : ℝ) : EReal)
      = ((∑ l, if valid l then Real.exp (σ (key l) - σ top) else 0 : ℝ) : EReal) := by
    rw [sum_listed valid key fun j => ((Real.exp (σ j - σ top) : ℝ) : EReal), coe_total]
    exact Finset.sum_congr rfl fun i _ => by split_ifs <;> simp
  set D : ℝ := ∑ l, if valid l then Real.exp (σ (key l) - σ top) else 0 with hDdef
  have hterm : ∀ i, 0 ≤ if valid i then Real.exp (σ (key i) - σ top) else 0 := fun i => by
    split_ifs
    · exact (Real.exp_pos _).le
    · exact le_rfl
  have hDge : Real.exp (-68) ≤ D := by
    refine le_trans ?_ (Finset.single_le_sum (fun i _ => hterm i) (Finset.mem_univ l))
    rw [if_pos hv]
    refine Real.exp_le_exp.2 ?_
    have h1 := abs_le.1 (hb (key l))
    have h2 := abs_le.1 (hb top)
    linarith
  have hDpos : 0 < D := lt_of_lt_of_le (Real.exp_pos _) hDge
  rw [hr, hD, max_eq_left (tiny_le.trans (by exact_mod_cast hDge)), Ideal.div_coe hDpos.ne', one_mul]
  -- the reference's largest score
  obtain ⟨u, hu, humax⟩ := Finset.exists_max_image (Finset.univ.filter valid) (fun l => σ (key l)) ⟨l, by simp [hv]⟩
  have huv : valid u := by simpa using hu
  have hmask : Finset.univ.fold max ⊥ (masked valid fun l => s (key l)) = (σ (key u) : EReal) := by
    rw [fold_max_eq _ u fun i => ?_]
    · simp [masked, huv, hσ]
    · unfold masked
      rw [if_pos huv]
      split_ifs with hi
      · change s (key i) ≤ s (key u)
        rw [hσ, hσ, EReal.coe_le_coe_iff]
        exact humax i (by simp [hi])
      · exact bot_le
  have hwR : ∀ i, weightR valid (fun l => s (key l)) i
      = ((if valid i then Real.exp (σ (key i) - σ (key u)) else 0 : ℝ) : EReal) := fun i => by
    unfold weightR
    rw [hmask]
    unfold masked
    split_ifs with hi
    · change Ideal.exp (s (key i) - _) = _
      rw [hσ, ← EReal.coe_sub, Ideal.exp_coe]
    · simp
  simp only [hwR]
  rw [← coe_total]
  have hshift : ∀ i, (if valid i then Real.exp (σ (key i) - σ (key u)) else 0)
      = (if valid i then Real.exp (σ (key i) - σ top) else 0) * Real.exp (σ top - σ (key u)) := fun i => by
    split_ifs
    · rw [← Real.exp_add]; congr 1; ring
    · simp
  simp only [hshift]
  rw [← Finset.sum_mul, ← hDdef, Ideal.div_coe (mul_pos hDpos (Real.exp_pos _)).ne', if_pos hv, ← EReal.coe_mul, ← EReal.coe_mul]
  congr 1
  have := (Real.exp_pos (σ top - σ (key u))).ne'
  field_simp

end Cert.Proof
-- ==== Proof.Attention.lean ====
/- The attention of one sequence, at a row, as the kernel and the reference compute it, and the packed layout the kernel
   keeps its weights in: head `h`'s sixteen channels of three components lie in the first 48 of 128 columns. -/
module

public import proofs.«01_k».proof.Proof.Layers
public import proofs.«01_k».proof.Proof.Softmax

@[expose] public section

noncomputable section

namespace Cert.Proof

open Idealize.ShloMosaic

/-- A square weight, by output and input channel. -/
abbrev Weight := Fin 128 → Fin 128 → EReal

/-- Channel `c` of head `h`. -/
def chan (h : Fin 8) (c : Fin 16) : Fin 128 := ⟨h.val * 16 + c.val, by omega⟩

/-- A row times a weight. -/
def lin (w : Weight) (x : Row) (o : Fin 128) (d : Fin 3) : EReal := ∑ c, x d c * w o c

/-- The product of head `h`'s query and key. -/
def dotHead (q k : Fin 128 → Fin 3 → EReal) (h : Fin 8) : EReal := ∑ c : Fin 16, ∑ d : Fin 3, q (chan h c) d * k (chan h c) d

/-- Column `t` of head `h` among the packed ones. -/
def slot (h : Fin 8) (t : Fin 128) : Fin 1024 := ⟨h.val * 128 + t.val, by omega⟩

/-- The channel of head `h` that column `t` holds, for the first 48. -/
def slotChan (h : Fin 8) (t : Fin 128) (ht : t.val < 48) : Fin 128 := chan h ⟨t.val / 3, by omega⟩

/-- A weight as the kernel packs it: component `d` of output channel `c` of head `h` in column `3 c + d`, zero elsewhere. -/
def packed (w : Weight) (d : Fin 3) (c : Fin 128) (h : Fin 8) (t : Fin 128) : EReal :=
  if ht : t.val < 48 then (if t.val % 3 = d.val then w (slotChan h t ht) c else 0) else 0

/-- A function of a head's packed columns. -/
def spreadOut (f : Fin 16 → Fin 3 → EReal) (t : Fin 128) : EReal :=
  if ht : t.val < 48 then f ⟨t.val / 3, by omega⟩ ⟨t.val % 3, Nat.mod_lt _ (by norm_num)⟩ else 0

/-- The sum over a head's packed columns is the sum over its channels and components. -/
theorem sum_spreadOut (f : Fin 16 → Fin 3 → EReal) : ∑ t, spreadOut f t = ∑ c, ∑ d, f c d := by
  have h1 : ∑ t : Fin 128, spreadOut f t
      = ∑ t : Fin 48, spreadOut f (Fin.castAdd 80 t) + ∑ t : Fin 80, spreadOut f (Fin.natAdd 48 t) :=
    Fin.sum_univ_add (a := 48) (b := 80) (spreadOut f)
  have h2 : ∀ t : Fin 80, spreadOut f (Fin.natAdd 48 t) = 0 := fun t => by
    unfold spreadOut
    rw [dif_neg]
    simp
  rw [h1, Finset.sum_eq_zero fun t _ => h2 t, add_zero, ← Fintype.sum_prod_type' (f := f)]
  refine (Equiv.sum_comp (finProdFinEquiv (m := 16) (n := 3)) fun t => spreadOut f (Fin.castAdd 80 t)).symm.trans ?_
  refine Finset.sum_congr rfl fun p _ => ?_
  obtain ⟨c, d⟩ := p
  have hv : (Fin.castAdd 80 (finProdFinEquiv (m := 16) (n := 3) (c, d))).val = d.val + 3 * c.val := rfl
  unfold spreadOut
  rw [dif_pos (by rw [hv]; omega)]
  refine congrArg₂ f (Fin.ext ?_) (Fin.ext ?_)
  · change _ / 3 = c.val
    rw [hv]; omega
  · change _ % 3 = d.val
    rw [hv]; omega

/-- A row times a packed weight: the row times the weight, spread over the head's columns. -/
theorem sum_packed (w : Weight) (x : Row) (h : Fin 8) (t : Fin 128) :
    ∑ d : Fin 3, ∑ c : Fin 128, x d c * packed w d c h t = spreadOut (fun c d => lin w x (chan h c) d) t := by
  unfold packed spreadOut
  split_ifs with ht
  · rw [Finset.sum_eq_single ⟨t.val % 3, Nat.mod_lt _ (by norm_num)⟩]
    · simp [lin, slotChan]
    · intro d _ hd
      refine Finset.sum_eq_zero fun c _ => ?_
      rw [if_neg fun e => hd (Fin.ext e.symm), mul_zero]
    · simp
  · simp

/-- The products of two spread functions, added up. -/
theorem spreadOut_mul (f g : Fin 16 → Fin 3 → EReal) (t : Fin 128) :
    spreadOut f t * spreadOut g t = spreadOut (fun c d => f c d * g c d) t := by
  unfold spreadOut
  split_ifs <;> simp

/-- A spread function times a packed output weight: only the weight's own component counts. -/
theorem sum_spread_packed (f : Fin 16 → Fin 3 → EReal) (w : Weight) (d : Fin 3) (o : Fin 128) (h : Fin 8) :
    ∑ t, spreadOut f t * packed (fun a b => w b a) d o h t = ∑ c : Fin 16, f c d * w o (chan h c) := by
  have h1 : ∀ t, spreadOut f t * packed (fun a b => w b a) d o h t
      = spreadOut (fun c e => if e = d then f c e * w o (chan h c) else 0) t := fun t => by
    unfold spreadOut packed
    by_cases ht : t.val < 48
    · simp only [dif_pos ht, Fin.ext_iff, slotChan]
      split_ifs
      · rfl
      · rw [mul_zero]
    · simp only [dif_neg ht, mul_zero]
  simp only [h1, sum_spreadOut]
  refine Finset.sum_congr rfl fun c _ => ?_
  simp

/-! ## The attention -/

/-- The weights of the attention. -/
structure Heads where
  wq : Weight
  wk : Weight
  wv : Weight
  wo : Weight

/-- The product of row `n`'s query and row `j`'s key, of head `h`. -/
def rawScore (p : Heads) (x : Fin 1024 → Row) (n j : Fin 1024) (h : Fin 8) : EReal :=
  dotHead (lin p.wq (x n)) (lin p.wk (x j)) h

/-- Row `n` after the attention, as the kernel computes it: `scale` the scores' factor, `m j` how often the row lists key `j`. -/
def attendK (p : Heads) (scale : EReal) (x : Fin 1024 → Row) (m : Fin 1024 → EReal) (n : Fin 1024) : Row := fun d o =>
  x n d o + ∑ h : Fin 8, ∑ c : Fin 16,
    headK (fun j => rawScore p x n j h * scale) m (fun j => lin p.wv (x j) (chan h c) d) * p.wo o (chan h c)

/-- Whether a row's `l`-th index names a key. -/
def names (row : Fin 16 → BitVec 32) (l : Fin 16) : Prop := 0 ≤ (row l).toInt

instance (row : Fin 16 → BitVec 32) : DecidablePred (names row) := fun l => inferInstanceAs (Decidable (0 ≤ (row l).toInt))

/-- The key a row's `l`-th index names. -/
def keyOf (row : Fin 16 → BitVec 32) (l : Fin 16) : Fin 1024 := ⟨(row l).toNat % 1024, Nat.mod_lt _ (by norm_num)⟩

/-- Row `n` after the attention, as the reference computes it, the scores over `root`. -/
def attendR (p : Heads) (root : EReal) (x : Fin 1024 → Row) (row : Fin 16 → BitVec 32) (n : Fin 1024) : Row := fun d o =>
  x n d o + ∑ h : Fin 8, ∑ c : Fin 16,
    headR (names row) (fun l => Ideal.div (rawScore p x n (keyOf row l) h) root)
      (fun l => lin p.wv (x (keyOf row l)) (chan h c) d) * p.wo o (chan h c)

/-- The two agree, the scores' factor being one over the square root of 48 and no product of a query and a key passing
    235 either way. -/
theorem attend_eq (p : Heads) (x : Fin 1024 → Row) (row : Fin 16 → BitVec 32) (n : Fin 1024)
    (hb : ∀ j h, max (rawScore p x n j h) (-rawScore p x n j h) ≤ ((235 : ℝ) : EReal)) :
    attendK p (((Real.sqrt 48)⁻¹ : ℝ) : EReal) x (listed (names row) (keyOf row)) n
      = attendR p ((Real.sqrt 48 : ℝ) : EReal) x row n := by
  have hs : (235 / 34 : ℝ) ≤ Real.sqrt 48 := Real.le_sqrt_of_sq_le (by norm_num)
  have hs0 : (0 : ℝ) < Real.sqrt 48 := lt_of_lt_of_le (by norm_num) hs
  funext d o
  rw [← one_div]
  unfold attendK attendR
  congr 1
  refine Finset.sum_congr rfl fun h _ => Finset.sum_congr rfl fun c _ => ?_
  congr 1
  have hreal : ∀ j, ∃ r : ℝ, rawScore p x n j h = (r : EReal) ∧ |r| ≤ 235 := fun j => by
    have hj := hb j h
    generalize rawScore p x n j h = a at hj
    induction a with
    | bot => simp at hj
    | top => simp at hj
    | coe r =>
      refine ⟨r, rfl, ?_⟩
      rw [← EReal.coe_neg] at hj
      exact abs_le'.2 ⟨by exact_mod_cast (le_max_left _ _).trans hj, by exact_mod_cast (le_max_right _ _).trans hj⟩
  choose r hr hr' using hreal
  have hdiv : ∀ j, Ideal.div (rawScore p x n j h) ((Real.sqrt 48 : ℝ) : EReal)
      = rawScore p x n j h * ((1 / Real.sqrt 48 : ℝ) : EReal) := fun j => Ideal.div_coe hs0.ne' _
  simp only [hdiv]
  refine head_eq (names row) (keyOf row) (fun j => rawScore p x n j h * ((1 / Real.sqrt 48 : ℝ) : EReal)) _
    (fun j => r j * (1 / Real.sqrt 48)) (fun j => by rw [hr, ← EReal.coe_mul]) fun j => ?_
  rw [abs_mul, abs_of_pos (one_div_pos.2 hs0), mul_one_div, div_le_iff₀ hs0]
  refine (hr' j).trans ?_
  linarith

end Cert.Proof
-- ==== Proof.Block.lean ====
/- What one block of rows is left holding, at an index: the attention of the block's rows, then the layers after it, the
   weights being packed as the kernel packs them. -/
module

public import proofs.«01_k».proof.Proof.Vectors
public import proofs.«01_k».proof.Proof.Attention
public import Idealize.ShloMosaic.Lib.WordCmp

@[expose] public section

set_option maxRecDepth 16384
set_option maxHeartbeats 2000000

noncomputable section

namespace Cert.Proof

open Idealize.ShloMosaic Idealize.ShloMosaic.TcCoe Idealize.SL.Sem
open Cert.KernelIdeal Cert.KernelIdeal.Gen

/-- The factor of the scores, the named constant. -/
def factor : EReal := named κ "scale" 0x3E13CD3A#32

/-! ## The vectors at an index -/

theorem rowsV_at (x : Vec Ideal S3x1024x128 .f32) (d : Fin 3) (r : Fin 1024) (c : Fin 128) :
    rowsV x d (ix2 r c) = x (ix3 d r c) := by
  fin_cases d <;> pointwise [rowsV, k0_pay3]

theorem packV_at (w : Vec Ideal S3x128x1024 .f32) (d : Fin 3) (c : Fin 128) (t : Fin 1024) :
    packV w d (ix3 0 c t) = w (ix3 d c t) := by
  fin_cases d <;> pointwise [packV]

theorem colV_at (x : Vec Ideal S1024x16 .i32) (l : Fin 16) (r : Fin 1024) (c : Fin 1) :
    colV x l (ix2 r c) = x (ix2 r l) := by
  pointwise [colV]

theorem poV_at (x : Vec Ideal S3x1024x128 .f32) (d : Fin 3) (h : Fin 8) (t o : Fin 128) :
    poV x d h (ix3 0 t o) = x (ix3 d (slot h t) o) := by
  pointwise [poV, slot]

theorem headCols_at (h : Fin 8) (v : FVec Ideal S1024x1024 .f32) (r : Fin 1024) (t : Fin 128) :
    headCols h v (ix2 r t) = v (ix2 r (slot h t)) := by
  pointwise [headCols, slot]

theorem projV_at (x : Fin 3 → FVec Ideal S1024x128 .f32) (w : Fin 3 → FVec Ideal S1x128x1024 .f32) (r j : Fin 1024) :
    projV x w (ix2 r j) = ∑ d : Fin 3, ∑ c : Fin 128, x d (ix2 r c) * w d (ix3 0 c j) := by
  rw [Fin.sum_univ_three]
  pointwise [projV]

/-- A key's test, as the kernel's words make it. -/
theorem tally_word (a b : BitVec 32) :
    Scalar.select (IntOp.andi (IntOp.cmpi .eq a b) (IntOp.cmpi .sge a 0#32)) (1 : EReal) 0
      = if 0 ≤ a.toInt ∧ a = b then 1 else 0 := by
  rw [WordCmp.cmpi_eq_eq, WordCmp.cmpi_sge_eq, BitVec.toInt_zero]
  unfold IntOp.andi Scalar.select
  rcases Decidable.em (a = b) with h1 | h1 <;> rcases Decidable.em (0 ≤ a.toInt) with h2 | h2
  · rw [decide_eq_true h1, decide_eq_true h2, if_pos (by decide), if_pos ⟨h2, h1⟩]
  · rw [decide_eq_true h1, decide_eq_false h2, if_neg (by decide), if_neg fun h => h2 h.1]
  · rw [decide_eq_false h1, decide_eq_true h2, if_neg (by decide), if_neg fun h => h1 h.2]
  · rw [decide_eq_false h1, decide_eq_false h2, if_neg (by decide), if_neg fun h => h1 h.2]

theorem tallyV_at (acc : FVec Ideal S1024x1024 .f32) (col : Vec Ideal S1024x1 .i32) (r j : Fin 1024) :
    tallyV acc col (ix2 r j)
      = acc (ix2 r j) + if 0 ≤ (col (ix2 r 0)).toInt ∧ col (ix2 r 0) = BitVec.ofNat 32 j.val then 1 else 0 := by
  pointwise [tallyV]
  rw [tally_word]

/-- How often the block's row lists each key, every index being below 1024. -/
theorem countV_at (x : Vec Ideal S1024x16 .i32) (r j : Fin 1024) (hx : ∀ l, (x (ix2 r l)).toInt < 1024) :
    countV (colV x) (ix2 r j) = listed (names fun l => x (ix2 r l)) (keyOf fun l => x (ix2 r l)) j := by
  have h : ∀ l : Fin 16, (if 0 ≤ (colV x l (ix2 r 0)).toInt ∧ colV x l (ix2 r 0) = BitVec.ofNat 32 j.val then (1 : EReal) else 0)
      = if names (fun l => x (ix2 r l)) l ∧ keyOf (fun l => x (ix2 r l)) l = j then 1 else 0 := fun l => by
    rw [colV_at]
    refine if_congr (and_congr_right fun hn => ?_) rfl rfl
    have hlt := hx l
    have hj := j.isLt
    change _ ↔ (⟨(x (ix2 r l) : BitVec 32).toNat % 1024, _⟩ : Fin 1024) = j
    rw [Fin.ext_iff]
    change _ ↔ (x (ix2 r l) : BitVec 32).toNat % 1024 = j.val
    change 0 ≤ (x (ix2 r l) : BitVec 32).toInt at hn
    generalize x (ix2 r l) = a at hn hlt ⊢
    have : a.toNat < 1024 := by
      rw [BitVec.toInt_eq_toNat_cond] at hn hlt
      have := a.isLt
      split_ifs at hn hlt <;> omega
    rw [← BitVec.toNat_inj, BitVec.toNat_ofNat]
    omega
  unfold countV listed
  simp only [tallyV_at, h, Fin.sum_univ_succ, Fin.sum_univ_zero]
  pointwise
  simp only [zero_add, add_zero, add_assoc]
  rfl

theorem scoreV_at (h : Fin 8) (q k : FVec Ideal S1024x1024 .f32) (r j : Fin 1024) :
    scoreV h q k (ix2 r j)
      = (∑ t, q (ix2 r (slot h t)) * k (ix2 j (slot h t))) * factor := by
  simp only [← headCols_at]
  pointwise [scoreV, factor, named]

theorem neg_inf : Ideal.ofBits .f32 0xFF800000#32 = ⊥ := by simp [Ideal.ofBits, Ideal.ieee]

theorem weightV_at (s mult : FVec Ideal S1024x1024 .f32) (r j : Fin 1024) :
    weightV s mult (ix2 r j) = weightK (fun j => s (ix2 r j)) (fun j => mult (ix2 r j)) j := by
  unfold weightK
  rw [← neg_inf]
  pointwise [weightV]

theorem normV_at (e : FVec Ideal S1024x1024 .f32) (r j : Fin 1024) :
    normV e (ix2 r j) = e (ix2 r j) * Ideal.div 1 (max (∑ i, e (ix2 r i)) tiny) := by
  pointwise [normV, tiny]

theorem headV_at (h : Fin 8) (q k v mult : FVec Ideal S1024x1024 .f32) (r : Fin 1024) (t : Fin 128) :
    headV h q k v mult (ix2 r t)
      = headK (fun j => scoreV h q k (ix2 r j)) (fun j => mult (ix2 r j)) (fun j => v (ix2 j (slot h t))) := by
  unfold headK
  simp only [← headCols_at, ← weightV_at, ← normV_at]
  pointwise [headV]

theorem gatherV_at (acc oh : FVec Ideal S1024x128 .f32) (po : FVec Ideal S1x128x128 .f32) (r : Fin 1024) (o : Fin 128) :
    gatherV acc oh po (ix2 r o) = acc (ix2 r o) + ∑ t, oh (ix2 r t) * po (ix3 0 t o) := by
  pointwise [gatherV]

theorem mergeV_at (oh : Fin 8 → FVec Ideal S1024x128 .f32) (po : Fin 8 → FVec Ideal S1x128x128 .f32) (r : Fin 1024) (o : Fin 128) :
    mergeV oh po (ix2 r o) = ∑ h, ∑ t, oh h (ix2 r t) * po h (ix3 0 t o) := by
  unfold mergeV
  simp only [gatherV_at, Fin.sum_univ_eight]
  pointwise

/-- The row of the three components at row `r`. -/
def rowAt (y : Fin 3 → FVec Ideal S1024x128 .f32) (r : Fin 1024) : Row := fun d c => y d (ix2 r c)

theorem normedV_at (y : Fin 3 → FVec Ideal S1024x128 .f32) (g b : FVec Ideal S1x128 .f32) (r : Fin 1024) :
    rowAt (normedV y g b) r = normK (rowAt y r) (fun c => g (ix2 0 c)) (fun c => b (ix2 0 c)) := by
  funext d c
  pointwise [rowAt, normedV, lnV, normK, dev, spread, mean, len, width, small]

theorem widenV_at (y : FVec Ideal S1024x128 .f32) (w : FVec Ideal S128x512 .f32) (r : Fin 1024) (e : Fin 512) :
    widenV y w (ix2 r e) = wide (fun c => y (ix2 r c)) (fun e c => w (ix2 c e)) e := by
  pointwise [widenV, wide]

theorem shareV_at (a b : Fin 3 → FVec Ideal S1024x512 .f32) (r : Fin 1024) (e : Fin 512) :
    shareV a b (ix2 r e)
      = if 0 ≤ a 0 (ix2 r e) * b 0 (ix2 r e) + a 1 (ix2 r e) * b 1 (ix2 r e) + a 2 (ix2 r e) * b 2 (ix2 r e) then 0
        else Ideal.div (a 0 (ix2 r e) * b 0 (ix2 r e) + a 1 (ix2 r e) * b 1 (ix2 r e) + a 2 (ix2 r e) * b 2 (ix2 r e))
          (b 0 (ix2 r e) * b 0 (ix2 r e) + b 1 (ix2 r e) * b 1 (ix2 r e) + b 2 (ix2 r e) * b 2 (ix2 r e) + small) := by
  pointwise [shareV, small]

theorem ffV_at (y : Fin 3 → FVec Ideal S1024x128 .f32) (w wd : FVec Ideal S128x512 .f32) (w2 : FVec Ideal S512x128 .f32) (r : Fin 1024) :
    rowAt (ffV y w wd w2) r
      = feed (rowAt y r) (rectK (rowAt y r) (fun e c => w (ix2 c e)) (fun e c => wd (ix2 c e))) (fun o e => w2 (ix2 e o)) := by
  funext d c
  have h : ∀ e, rectK (rowAt y r) (fun e c => w (ix2 c e)) (fun e c => wd (ix2 c e)) d e
      = widenV (y d) w (ix2 r e) - shareV (fun d => widenV (y d) w) (fun d => widenV (y d) wd) (ix2 r e) * widenV (y d) wd (ix2 r e) := fun e => by
    simp only [shareV_at, widenV_at]
    rfl
  unfold feed
  simp only [h]
  unfold rowAt ffV
  generalize shareV (fun d => widenV (y d) w) (fun d => widenV (y d) wd) = sh
  generalize widenV (y d) w = a
  generalize widenV (y d) wd = b
  pointwise

/-! ## The block -/

section
variable (x0 : Vec Ideal S3x1024x128 .f32) (x1 : Vec Ideal S1024x16 .i32) (x2 x3 x4 : Vec Ideal S3x128x1024 .f32)
  (x5 : Vec Ideal S3x1024x128 .f32) (x6 x7 : Vec Ideal S128x512 .f32) (x8 : Vec Ideal S512x128 .f32)
  (x9 x10 x11 x12 : Vec Ideal S1x128 .f32)

/-- The block's rows. -/
def blockRows (n : Fin 1024) : Row := fun d c => x0 (ix3 d n c)

/-- The block's key indices of a row. -/
def blockIdx (n : Fin 1024) (l : Fin 16) : BitVec 32 := x1 (ix2 n l)

/-- A block's array holds a packed weight. -/
def Packs (a : Vec Ideal S3x128x1024 .f32) (w : Weight) : Prop := ∀ d c h t, a (ix3 d c (slot h t)) = packed w d c h t

/-- A block's array holds the packed output weight. -/
def PacksOut (a : Vec Ideal S3x1024x128 .f32) (w : Weight) : Prop := ∀ d o h t, a (ix3 d (slot h t) o) = packed (fun a b => w b a) d o h t

theorem proj_packed (a : Vec Ideal S3x128x1024 .f32) (w : Weight) (ha : Packs a w) (n : Fin 1024) (h : Fin 8) (t : Fin 128) :
    projV (rowsV x0) (packV a) (ix2 n (slot h t)) = spreadOut (fun c d => lin w (blockRows x0 n) (chan h c) d) t := by
  rw [projV_at, ← sum_packed]
  refine Finset.sum_congr rfl fun d _ => Finset.sum_congr rfl fun c _ => ?_
  rw [rowsV_at, packV_at, ha]
  rfl

theorem headK_spread (s m : Fin 1024 → EReal) (f : Fin 1024 → Fin 16 → Fin 3 → EReal) (t : Fin 128) :
    headK s m (fun j => spreadOut (f j) t) = spreadOut (fun c d => headK s m fun j => f j c d) t := by
  unfold spreadOut
  by_cases ht : t.val < 48
  · simp only [dif_pos ht]
  · simp only [dif_neg ht, headK, mul_zero, Finset.sum_const_zero]

theorem attendedV_at (p : Heads) (hq : Packs x2 p.wq) (hk : Packs x3 p.wk) (hv : Packs x4 p.wv) (ho : PacksOut x5 p.wo)
    (n : Fin 1024) (hx : ∀ l, (x1 (ix2 n l)).toInt < 1024) :
    rowAt (attendedV x0 x1 x2 x3 x4 x5) n
      = attendK p factor (blockRows x0)
          (listed (names (blockIdx x1 n)) (keyOf (blockIdx x1 n))) n := by
  funext d o
  have hs : ∀ h j, scoreV h (projV (rowsV x0) (packV x2)) (projV (rowsV x0) (packV x3)) (ix2 n j)
      = rawScore p (blockRows x0) n j h * factor := fun h j => by
    rw [scoreV_at]
    simp only [proj_packed x0 x2 p.wq hq, proj_packed x0 x3 p.wk hk, spreadOut_mul, sum_spreadOut]
    rfl
  have hm : mergeV (fun h => headV h (projV (rowsV x0) (packV x2)) (projV (rowsV x0) (packV x3))
      (projV (rowsV x0) (packV x4)) (countV (colV x1))) (poV x5 d) (ix2 n o)
      = ∑ h : Fin 8, ∑ c : Fin 16, headK (fun j => rawScore p (blockRows x0) n j h * factor)
          (listed (names (blockIdx x1 n)) (keyOf (blockIdx x1 n)))
          (fun j => lin p.wv (blockRows x0 j) (chan h c) d) * p.wo o (chan h c) := by
    rw [mergeV_at]
    refine Finset.sum_congr rfl fun h _ => ?_
    simp only [headV_at, poV_at, hs, ho d o, proj_packed x0 x4 p.wv hv, headK_spread, countV_at x1 n _ hx]
    rw [sum_spread_packed]
    rfl
  unfold attendK
  rw [← hm]
  unfold rowAt attendedV blockRows
  rw [← rowsV_at x0 d n o]
  rfl

/-- The parameters of the layers after the attention, as the block's arrays hold them. -/
def blockParams : Params where
  g1 c := x9 (ix2 0 c)
  b1 c := x10 (ix2 0 c)
  w e c := x6 (ix2 c e)
  wd e c := x7 (ix2 c e)
  w2 o e := x8 (ix2 e o)
  g2 c := x11 (ix2 0 c)
  b2 c := x12 (ix2 0 c)

theorem ld46 (x : Vec Ideal S1x128 .f32) : View.ld x r0_46 = x := View.ld_unit_zero (by funext a; fin_cases a <;> rfl) _ _
theorem ld47 (x : Vec Ideal S128x512 .f32) : View.ld x r0_47 = x := View.ld_unit_zero (by funext a; fin_cases a <;> rfl) _ _
theorem ld48 (x : Vec Ideal S512x128 .f32) : View.ld x r0_48 = x := View.ld_unit_zero (by funext a; fin_cases a <;> rfl) _ _

theorem lastV_at (p : Heads) (hq : Packs x2 p.wq) (hk : Packs x3 p.wk) (hv : Packs x4 p.wv) (ho : PacksOut x5 p.wo)
    (n : Fin 1024) (hx : ∀ l, (x1 (ix2 n l)).toInt < 1024) :
    rowAt (lastV x0 x1 x2 x3 x4 x5 x6 x7 x8 x9 x10 x11 x12) n
      = layersK (blockParams x6 x7 x8 x9 x10 x11 x12)
        (attendK p factor (blockRows x0)
          (listed (names (blockIdx x1 n)) (keyOf (blockIdx x1 n))) n) := by
  unfold lastV firstV layersK
  rw [normedV_at, ffV_at, normedV_at, attendedV_at x0 x1 x2 x3 x4 x5 p hq hk hv ho n hx, ld46, ld46, ld46, ld46, ld47, ld47, ld48]
  rfl

/-- The block's component `d` at row `n` is the last vector's. -/
theorem outV_at (d : Fin 3) (n : Fin 1024) (c : Fin 128) :
    outV x0 x1 x2 x3 x4 x5 x6 x7 x8 x9 x10 x11 x12 (ix3 d n c) = lastV x0 x1 x2 x3 x4 x5 x6 x7 x8 x9 x10 x11 x12 d (ix2 n c) := by
  unfold outV
  generalize lastV x0 x1 x2 x3 x4 x5 x6 x7 x8 x9 x10 x11 x12 = y
  refine View.canon_apply_of_pieces (Val := Elt Ideal) (e := .f32) (fun i => y (i 0) (ix2 (i 1) (i 2))) _ ?_ (ix3 d n c)
    (cover0_13 _ _ _ _)
  have hp : ∀ (d : Fin 3) (v : FVec Ideal S1024x128 .f32) (x : S1x1024x128.Idx) (i : S3x1024x128.Idx), (i 0).val = d.val →
      (i 1).val = (x 1).val → (i 2).val = (x 2).val → v = y d → k0_pay1 v x = y (i 0) (ix2 (i 1) (i 2)) := by
    intro d v x i h0 h1 h2 hv
    have e0 : i 0 = d := Fin.ext h0
    have e1 : i 1 = x 1 := Fin.ext h1
    have e2 : i 2 = x 2 := Fin.ext h2
    rw [e0, e1, e2, ← hv]
    pointwise [k0_pay1]
  intro pc hpc x
  rcases List.mem_cons.mp hpc with rfl | hpc
  · have hx : (x 0).val < 1 := (x 0).isLt
    refine hp 2 _ x _ ?_ ?_ ?_ rfl
    · change 2 + 1 * (x 0).val = 2; omega
    · change 0 + 1 * (x 1).val = (x 1).val; omega
    · change 0 + 1 * (x 2).val = (x 2).val; omega
  rcases List.mem_cons.mp hpc with rfl | hpc
  · have hx : (x 0).val < 1 := (x 0).isLt
    refine hp 1 _ x _ ?_ ?_ ?_ rfl
    · change 1 + 1 * (x 0).val = 1; omega
    · change 0 + 1 * (x 1).val = (x 1).val; omega
    · change 0 + 1 * (x 2).val = (x 2).val; omega
  rcases List.mem_cons.mp hpc with rfl | hpc
  · have hx : (x 0).val < 1 := (x 0).isLt
    refine hp 0 _ x _ ?_ ?_ ?_ rfl
    · change 0 + 1 * (x 0).val = 0; omega
    · change 0 + 1 * (x 1).val = (x 1).val; omega
    · change 0 + 1 * (x 2).val = (x 2).val; omega
  · exact absurd hpc List.not_mem_nil

end

end Cert.Proof
-- ==== Proof.Packing.lean ====
/- The packed weights that the host lays out for the kernel: each channel's row goes, for each component, to that
   component's column of its head, and every other column is zero. -/
module

public import proofs.«01_k».proof.Proof.Block
public import Idealize.ShloMosaic.Lib.Pointwise
public import Idealize.ShloMosaic.Lib.Routing.OpsSet
public import Idealize.ShloMosaic.Lib.Routing.OpsPair

@[expose] public section

set_option maxRecDepth 16384
set_option maxHeartbeats 2000000

noncomputable section

namespace Cert.Proof

open Idealize.ShloMosaic Idealize.ShloMosaic.TcCoe Idealize.SL.Sem
open Cert.KernelIdeal Cert.KernelIdeal.Gen

/-! ## The table of columns -/

/-- The component and the column of every channel's row. -/
def tableV (e : BitVec 32) (lit : Fin 128 → BitVec 32) : IVec S128x2 32 :=
  concatenate S128x2 1 [⟨S128x1, broadcastInDim S128x1 ![0] bcast_S128_S128x1_0 (id (broadcastInDim S128 ![] bcast_S_S128 (constantI S_ 32 e)))⟩,
    ⟨S128x1, broadcastInDim S128x1 ![0] bcast_S128_S128x1_0
      (select (cmpi .slt (fun i => lit (S128.rowMajor i)) (broadcastInDim S128 ![] bcast_S_S128 (constantI S_ 32 0#32)))
        (addi (fun i => lit (S128.rowMajor i)) (broadcastInDim S128 ![] bcast_S_S128 (constantI S_ 32 1024#32)))
        (fun i => lit (S128.rowMajor i)))⟩] concatenates_S128x1_S128x1_S128x2_d1

/-- The column of channel `k`'s component `e`. -/
def column (e : Fin 3) (k : Fin 128) : ℕ := k.val / 16 * 128 + k.val % 16 * 3 + e.val

theorem column_lt (e : Fin 3) (k : Fin 128) : column e k < 1024 := by
  unfold column
  omega

theorem lit0_eq : ∀ k : Fin 128, lit0 k = BitVec.ofNat 32 (column 0 k) := by decide
theorem lit1_eq : ∀ k : Fin 128, lit1 k = BitVec.ofNat 32 (column 1 k) := by decide
theorem lit2_eq : ∀ k : Fin 128, lit2 k = BitVec.ofNat 32 (column 2 k) := by decide

theorem tableV_zero (e : BitVec 32) (lit : Fin 128 → BitVec 32) (k : Fin 128) : tableV e lit (ix2 k 0) = e := by
  pointwise [tableV]
  rfl

theorem tableV_one (e : BitVec 32) (lit : Fin 128 → BitVec 32) (f : Fin 3) (h : ∀ k, lit k = BitVec.ofNat 32 (column f k)) (k : Fin 128) :
    tableV e lit (ix2 k 1) = BitVec.ofNat 32 (column f k) := by
  pointwise [tableV]
  have hk : lit (S128.rowMajor (ix1 k)) = BitVec.ofNat 32 (column f k) := by
    refine Eq.trans (congrArg lit (Fin.ext ?_)) (h k)
    rw [Shape.rowMajor_val_one]
    rfl
  have hc := column_lt f k
  rw [hk, Routing.wrap_of_lt]
  rw [BitVec.toNat_ofNat, Nat.mod_eq_of_lt (by omega)]
  omega

/-- A head's column is that of one channel alone. -/
theorem column_eq (e : Fin 3) (k : Fin 128) (h : Fin 8) (t : Fin 128) :
    column e k = (slot h t).val ↔ ∃ ht : t.val < 48, t.val % 3 = e.val ∧ k = slotChan h t ht := by
  unfold column slotChan chan
  have h1 : (slot h t).val = h.val * 128 + t.val := rfl
  rw [h1]
  constructor
  · intro hh
    have hq : k.val / 16 = h.val := by
      have hr : k.val % 16 < 16 := Nat.mod_lt _ (by norm_num)
      generalize k.val / 16 = q at hh ⊢
      generalize k.val % 16 = r at hh hr
      rcases lt_trichotomy q h.val with hlt | heq | hgt <;> omega
    have hm : k.val % 16 * 3 + e.val = t.val := by
      rw [hq] at hh
      omega
    have hk : k.val = h.val * 16 + k.val % 16 := by omega
    refine ⟨by omega, by omega, Fin.ext ?_⟩
    show k.val = h.val * 16 + t.val / 3
    omega
  · rintro ⟨ht, hm, rfl⟩
    show (h.val * 16 + t.val / 3) / 16 * 128 + (h.val * 16 + t.val / 3) % 16 * 3 + e.val = _
    omega

/-! ## The weights of the queries, the keys and the values -/

/-- Where an update of the packed array lands. -/
theorem lands (tab : IVec S128x2 32) (a b : Fin 128) (d : Fin 3) (b' : Fin 128) (t : Fin 1024) :
    scatter_S3x128x1024_S128x2_S128x128_1_02_02_1.resultIdx? (ix2 a b) tab = some (ix3 d b' t)
      ↔ (tab (ix2 a 0)).toInt = d.val ∧ b = b' ∧ (tab (ix2 a 1)).toInt = t.val := by
  set D := scatter_S3x128x1024_S128x2_S128x128_1_02_02_1
  have hsi : ∀ q : Fin 2, D.siIdx (ix2 a b) q = ix2 a q := fun q => by
    funext x
    refine Fin.ext ?_
    match x with
    | ⟨0, _⟩ => rfl
    | ⟨1, _⟩ => rfl
  have h0 : D.start (ix2 a b) tab 0 = (tab (ix2 a 0)).toInt := by
    unfold ScatterDims.start
    rw [dif_pos (show (0 : Fin 3) ∈ D.scatterDimsToOperandDims by decide)]
    exact congrArg (fun z => (tab z).toInt) (hsi 0)
  have h1 : D.start (ix2 a b) tab 1 = 0 := by
    unfold ScatterDims.start
    rw [dif_neg (show (1 : Fin 3) ∉ D.scatterDimsToOperandDims by decide)]
  have h2 : D.start (ix2 a b) tab 2 = (tab (ix2 a 1)).toInt := by
    unfold ScatterDims.start
    rw [dif_pos (show (2 : Fin 3) ∈ D.scatterDimsToOperandDims by decide)]
    exact congrArg (fun z => (tab z).toInt) (hsi 1)
  have w0 : D.window (ix2 a b) 0 = 0 := by
    unfold ScatterDims.window
    rw [dif_neg (show (0 : Fin 3) ∉ D.sKept by decide)]
  have w1 : D.window (ix2 a b) 1 = b.val := by
    unfold ScatterDims.window
    rw [dif_pos (show (1 : Fin 3) ∈ D.sKept by decide)]
    rfl
  have w2 : D.window (ix2 a b) 2 = 0 := by
    unfold ScatterDims.window
    rw [dif_neg (show (2 : Fin 3) ∉ D.sKept by decide)]
  rw [Routing.resultIdx?_eq_some]
  constructor
  · intro h
    have e0 := h 0
    have e1 := h 1
    have e2 := h 2
    rw [h0, w0] at e0
    rw [h1, w1] at e1
    rw [h2, w2] at e2
    refine ⟨by simpa using e0, Fin.ext ?_, by simpa using e2⟩
    have e1' : (0 : Int) + (b.val : Int) = (b'.val : Int) := e1
    omega
  · rintro ⟨e0, rfl, e2⟩ x
    match x with
    | ⟨0, _⟩ =>
      show D.start (ix2 a b) tab 0 + (D.window (ix2 a b) 0 : Int) = (d.val : Int)
      rw [h0, w0, e0]; simp
    | ⟨1, _⟩ =>
      show D.start (ix2 a b) tab 1 + (D.window (ix2 a b) 1 : Int) = (b.val : Int)
      rw [h1, w1]; simp
    | ⟨2, _⟩ =>
      show D.start (ix2 a b) tab 2 + (D.window (ix2 a b) 2 : Int) = (t.val : Int)
      rw [h2, w2, e2]; simp

/-- One component's rows written into the packed array. -/
def placeV (e : BitVec 32) (lit : Fin 128 → BitVec 32) (x : FVec Ideal S3x128x1024 .f32) (w : FVec Ideal S128x128 .f32) :
    FVec Ideal S3x128x1024 .f32 :=
  Host.scatter scatter_S3x128x1024_S128x2_S128x128_1_02_02_1 (fun _ b => b) x (tableV e lit) w

theorem toInt_small (k : ℕ) (hk : k < 1024) : (BitVec.ofNat 32 k).toInt = (k : Int) := StableHlo.Predicate.toInt_ofNat_small _ (by omega)

theorem placeV_at (e : Fin 3) (lit : Fin 128 → BitVec 32) (hl : ∀ k, lit k = BitVec.ofNat 32 (column e k))
    (x : FVec Ideal S3x128x1024 .f32) (w : FVec Ideal S128x128 .f32) (d : Fin 3) (c : Fin 128) (h : Fin 8) (t : Fin 128) :
    placeV (BitVec.ofNat 32 e.val) lit x w (ix3 d c (slot h t))
      = if e = d then (if ht : t.val < 48 then (if t.val % 3 = d.val then w (ix2 (slotChan h t ht) c) else x (ix3 d c (slot h t)))
          else x (ix3 d c (slot h t))) else x (ix3 d c (slot h t)) := by
  have hland : ∀ a b, scatter_S3x128x1024_S128x2_S128x128_1_02_02_1.resultIdx? (ix2 a b) (tableV (BitVec.ofNat 32 e.val) lit)
      = some (ix3 d c (slot h t)) ↔ e = d ∧ b = c ∧ ∃ ht : t.val < 48, t.val % 3 = e.val ∧ a = slotChan h t ht := fun a b => by
    rw [lands, tableV_zero, tableV_one _ _ e hl, toInt_small _ (by omega), toInt_small _ (column_lt e a), ← column_eq,
      Nat.cast_inj, Nat.cast_inj, ← Fin.ext_iff]
  unfold placeV
  by_cases hh : e = d ∧ ∃ ht : t.val < 48, t.val % 3 = e.val
  · obtain ⟨rfl, ht, hm⟩ := hh
    rw [if_pos rfl, dif_pos ht, if_pos hm]
    refine Routing.scatter_set_hit _ _ _ _ _ _ (fun k hk => ?_) (ix2 (slotChan h t ht) c) ((hland _ _).2 ⟨rfl, rfl, ht, hm, rfl⟩)
    rw [eq_ix2 k] at hk ⊢
    obtain ⟨-, hb, ht', -, ha⟩ := (hland _ _).1 hk
    rw [ha, hb]
  · rw [Routing.scatter_set_miss]
    · split_ifs with h1 h2 h3
      · exact absurd ⟨h1, h2, h1 ▸ h3⟩ hh
      all_goals rfl
    · intro k hk
      rw [eq_ix2 k] at hk
      obtain ⟨h1, -, ht, hm, -⟩ := (hland _ _).1 hk
      exact hh ⟨h1, ht, hm⟩

/-- The packed array: the three components' rows over zeros. -/
def packedV (w : FVec Ideal S128x128 .f32) : FVec Ideal S3x128x1024 .f32 :=
  placeV 2#32 lit2 (placeV 1#32 lit1 (placeV 0#32 lit0
    (broadcastInDim S3x128x1024 ![] bcast_S_S3x128x1024 (constant S_ .f32 0x00000000#32)) w) w) w

/-- The packed array holds the packed weight. -/
theorem packedV_packs (w : FVec Ideal S128x128 .f32) : Packs (packedV w) fun o c => w (ix2 o c) := by
  intro d c h t
  have hz : broadcastInDim S3x128x1024 ![] bcast_S_S3x128x1024 (constant (F := Ideal) S_ .f32 0x00000000#32) (ix3 d c (slot h t)) = (0 : EReal) := by
    pointwise
  unfold packedV packed
  have e2 := placeV_at 2 lit2 lit2_eq
  have e1 := placeV_at 1 lit1 lit1_eq
  have e0 := placeV_at 0 lit0 lit0_eq
  refine (e2 _ _ _ _ _ _).trans ?_
  rw [show ∀ x, placeV 1#32 lit1 x w (ix3 d c (slot h t)) = _ from fun x => e1 x w d c h t,
    show ∀ x, placeV 0#32 lit0 x w (ix3 d c (slot h t)) = _ from fun x => e0 x w d c h t, hz]
  fin_cases d <;> simp

/-! ## The output weight -/

/-- Where an update of the packed output weight landsOut. -/
theorem landsOut (tab : IVec S128x2 32) (a b : Fin 128) (d : Fin 3) (t : Fin 1024) (b' : Fin 128) :
    scatter_S3x1024x128_S128x2_S128x128_1_01_01_1.resultIdx? (ix2 a b) tab = some (ix3 d t b')
      ↔ (tab (ix2 a 0)).toInt = d.val ∧ b = b' ∧ (tab (ix2 a 1)).toInt = t.val := by
  set D := scatter_S3x1024x128_S128x2_S128x128_1_01_01_1
  have hsi : ∀ q : Fin 2, D.siIdx (ix2 a b) q = ix2 a q := fun q => by
    funext x
    refine Fin.ext ?_
    match x with
    | ⟨0, _⟩ => rfl
    | ⟨1, _⟩ => rfl
  have h0 : D.start (ix2 a b) tab 0 = (tab (ix2 a 0)).toInt := by
    unfold ScatterDims.start
    rw [dif_pos (show (0 : Fin 3) ∈ D.scatterDimsToOperandDims by decide)]
    exact congrArg (fun z => (tab z).toInt) (hsi 0)
  have h1 : D.start (ix2 a b) tab 1 = (tab (ix2 a 1)).toInt := by
    unfold ScatterDims.start
    rw [dif_pos (show (1 : Fin 3) ∈ D.scatterDimsToOperandDims by decide)]
    exact congrArg (fun z => (tab z).toInt) (hsi 1)
  have h2 : D.start (ix2 a b) tab 2 = 0 := by
    unfold ScatterDims.start
    rw [dif_neg (show (2 : Fin 3) ∉ D.scatterDimsToOperandDims by decide)]
  have w0 : D.window (ix2 a b) 0 = 0 := by
    unfold ScatterDims.window
    rw [dif_neg (show (0 : Fin 3) ∉ D.sKept by decide)]
  have w1 : D.window (ix2 a b) 1 = 0 := by
    unfold ScatterDims.window
    rw [dif_neg (show (1 : Fin 3) ∉ D.sKept by decide)]
  have w2 : D.window (ix2 a b) 2 = b.val := by
    unfold ScatterDims.window
    rw [dif_pos (show (2 : Fin 3) ∈ D.sKept by decide)]
    rfl
  rw [Routing.resultIdx?_eq_some]
  constructor
  · intro h
    have e0 := h 0
    have e1 := h 1
    have e2 := h 2
    rw [h0, w0] at e0
    rw [h1, w1] at e1
    rw [h2, w2] at e2
    refine ⟨by simpa using e0, Fin.ext ?_, by simpa using e1⟩
    have e2' : (0 : Int) + (b.val : Int) = (b'.val : Int) := e2
    omega
  · rintro ⟨e0, rfl, e1⟩ x
    match x with
    | ⟨0, _⟩ =>
      show D.start (ix2 a b) tab 0 + (D.window (ix2 a b) 0 : Int) = (d.val : Int)
      rw [h0, w0, e0]; simp
    | ⟨1, _⟩ =>
      show D.start (ix2 a b) tab 1 + (D.window (ix2 a b) 1 : Int) = (t.val : Int)
      rw [h1, w1, e1]; simp
    | ⟨2, _⟩ =>
      show D.start (ix2 a b) tab 2 + (D.window (ix2 a b) 2 : Int) = (b.val : Int)
      rw [h2, w2]; simp

/-- One component's rows written into the packed array. -/
def placeOutV (e : BitVec 32) (lit : Fin 128 → BitVec 32) (x : FVec Ideal S3x1024x128 .f32) (w : FVec Ideal S128x128 .f32) :
    FVec Ideal S3x1024x128 .f32 :=
  Host.scatter scatter_S3x1024x128_S128x2_S128x128_1_01_01_1 (fun _ b => b) x (tableV e lit) w

theorem placeOutV_at (e : Fin 3) (lit : Fin 128 → BitVec 32) (hl : ∀ k, lit k = BitVec.ofNat 32 (column e k))
    (x : FVec Ideal S3x1024x128 .f32) (w : FVec Ideal S128x128 .f32) (d : Fin 3) (c : Fin 128) (h : Fin 8) (t : Fin 128) :
    placeOutV (BitVec.ofNat 32 e.val) lit x w (ix3 d (slot h t) c)
      = if e = d then (if ht : t.val < 48 then (if t.val % 3 = d.val then w (ix2 (slotChan h t ht) c) else x (ix3 d (slot h t) c))
          else x (ix3 d (slot h t) c)) else x (ix3 d (slot h t) c) := by
  have hland : ∀ a b, scatter_S3x1024x128_S128x2_S128x128_1_01_01_1.resultIdx? (ix2 a b) (tableV (BitVec.ofNat 32 e.val) lit)
      = some (ix3 d (slot h t) c) ↔ e = d ∧ b = c ∧ ∃ ht : t.val < 48, t.val % 3 = e.val ∧ a = slotChan h t ht := fun a b => by
    rw [landsOut, tableV_zero, tableV_one _ _ e hl, toInt_small _ (by omega), toInt_small _ (column_lt e a), ← column_eq,
      Nat.cast_inj, Nat.cast_inj, ← Fin.ext_iff]
  unfold placeOutV
  by_cases hh : e = d ∧ ∃ ht : t.val < 48, t.val % 3 = e.val
  · obtain ⟨rfl, ht, hm⟩ := hh
    rw [if_pos rfl, dif_pos ht, if_pos hm]
    refine Routing.scatter_set_hit _ _ _ _ _ _ (fun k hk => ?_) (ix2 (slotChan h t ht) c) ((hland _ _).2 ⟨rfl, rfl, ht, hm, rfl⟩)
    rw [eq_ix2 k] at hk ⊢
    obtain ⟨-, hb, ht', -, ha⟩ := (hland _ _).1 hk
    rw [ha, hb]
  · rw [Routing.scatter_set_miss]
    · split_ifs with h1 h2 h3
      · exact absurd ⟨h1, h2, h1 ▸ h3⟩ hh
      all_goals rfl
    · intro k hk
      rw [eq_ix2 k] at hk
      obtain ⟨h1, -, ht, hm, -⟩ := (hland _ _).1 hk
      exact hh ⟨h1, ht, hm⟩

/-- The packed output weight, of the transposed weight `w`: the three components' rows over zeros. -/
def packedOutV (w : FVec Ideal S128x128 .f32) : FVec Ideal S3x1024x128 .f32 :=
  placeOutV 2#32 lit2 (placeOutV 1#32 lit1 (placeOutV 0#32 lit0
    (broadcastInDim S3x1024x128 ![] bcast_S_S3x1024x128 (constant S_ .f32 0x00000000#32)) w) w) w

/-- The packed array holds the packed output weight. -/
theorem packedOutV_packs (w : FVec Ideal S128x128 .f32) : PacksOut (packedOutV w) fun o c => w (ix2 c o) := by
  intro d c h t
  have hz : broadcastInDim S3x1024x128 ![] bcast_S_S3x1024x128 (constant (F := Ideal) S_ .f32 0x00000000#32) (ix3 d (slot h t) c) = (0 : EReal) := by
    pointwise
  unfold packedOutV packed
  have e2 := placeOutV_at 2 lit2 lit2_eq
  have e1 := placeOutV_at 1 lit1 lit1_eq
  have e0 := placeOutV_at 0 lit0 lit0_eq
  refine (e2 _ _ _ _ _ _).trans ?_
  rw [show ∀ x, placeOutV 1#32 lit1 x w (ix3 d (slot h t) c) = _ from fun x => e1 x w d c h t,
    show ∀ x, placeOutV 0#32 lit0 x w (ix3 d (slot h t) c) = _ from fun x => e0 x w d c h t, hz]
  fin_cases d <;> simp

end Cert.Proof
-- ==== Proof.Operands.lean ====
/- The arrays the kernel's blocks read, at an index. -/
module

public import proofs.«01_k».proof.Proof.Gen.KernelIdeal.Frame
public import proofs.«01_k».proof.Proof.Packing
public import Idealize.ShloMosaic.Lib.Pointwise
public import Idealize.ShloMosaic.Lib.StableHlo.ReadAt

@[expose] public section

set_option maxRecDepth 16384
set_option maxHeartbeats 2000000

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The rows, by component. -/
theorem v1_at (d : Fin 3) (n : Fin 8192) (k : Fin 128) :
    V m c main_v1 (ix3 d n k) = m ((c.tc : Thread nD τ).loc main_arg0) (ix2 n ⟨k.val * 3 + d.val, by omega⟩) := by
  unfold V
  after_reads_at

/-! The feed-forward weights, transposed. -/

theorem v141_at (a : Fin 128) (b : Fin 512) : V m c main_v141 (ix2 a b) = m ((c.tc : Thread nD τ).loc main_arg11) (ix2 b a) := by
  unfold V
  after_reads_at

theorem v142_at (a : Fin 128) (b : Fin 512) : V m c main_v142 (ix2 a b) = m ((c.tc : Thread nD τ).loc main_arg12) (ix2 b a) := by
  unfold V
  after_reads_at

theorem v143_at (a : Fin 512) (b : Fin 128) : V m c main_v143 (ix2 a b) = m ((c.tc : Thread nD τ).loc main_arg13) (ix2 b a) := by
  unfold V
  after_reads_at

/-! The factors and the offsets of the two layer normalisations. -/

theorem v144_at (b : Fin 128) : V m c main_v144 (ix2 0 b) = m ((c.tc : Thread nD τ).loc main_arg9) (ix1 b) := by
  unfold V
  after_reads_at

theorem v145_at (b : Fin 128) : V m c main_v145 (ix2 0 b) = m ((c.tc : Thread nD τ).loc main_arg10) (ix1 b) := by
  unfold V
  after_reads_at

theorem v146_at (b : Fin 128) : V m c main_v146 (ix2 0 b) = m ((c.tc : Thread nD τ).loc main_arg14) (ix1 b) := by
  unfold V
  after_reads_at

theorem v147_at (b : Fin 128) : V m c main_v147 (ix2 0 b) = m ((c.tc : Thread nD τ).loc main_arg15) (ix1 b) := by
  unfold V
  after_reads_at

/-! The packed weights of the attention. -/

theorem v35_eq : (V m c main_v35 : FVec Ideal S3x128x1024 .f32) = packedV (m ((c.tc : Thread nD τ).loc main_arg5)) := by
  unfold V
  after_reads_simp
  rfl

theorem v69_eq : (V m c main_v69 : FVec Ideal S3x128x1024 .f32) = packedV (m ((c.tc : Thread nD τ).loc main_arg6)) := by
  unfold V
  after_reads_simp
  rfl

theorem v103_eq : (V m c main_v103 : FVec Ideal S3x128x1024 .f32) = packedV (m ((c.tc : Thread nD τ).loc main_arg7)) := by
  unfold V
  after_reads_simp
  rfl

theorem v140_eq : (V m c main_v140 : FVec Ideal S3x1024x128 .f32)
    = packedOutV (transpose S128x128 [1, 0] (m ((c.tc : Thread nD τ).loc main_arg8)) transposes_S128x128_S128x128_1_0) := by
  unfold V
  after_reads_simp
  rfl

end Cert.Proof
-- ==== Proof.RefAttention.lean ====
/- The arrays the reference computes the attention by, at an index. -/
module

public import proofs.«01_k».proof.Proof.Gen.ReferenceIdeal.Run
public import proofs.«01_k».proof.Proof.Attention
public import Idealize.ShloMosaic.Lib.Pointwise
public import Idealize.ShloMosaic.Lib.Routing.OpsSet

@[expose] public section

set_option maxRecDepth 16384
set_option maxHeartbeats 2000000

noncomputable section

namespace Cert.Proof.Ref

open Idealize.ShloMosaic Idealize.ShloMosaic.TcCoe Idealize.SL.Sem
open Cert.ReferenceIdeal Cert.ReferenceIdeal.Gen Cert.ReferenceIdeal.Value

/-! ## Row-wise products, the heads, and the rows the indices name -/

/-- Every row times a square weight. -/
def linV (x : FVec Ideal S8192x128x3 .f32) (w : FVec Ideal S128x128 .f32) : FVec Ideal S8192x128x3 .f32 :=
  transpose S8192x128x3 [0, 2, 1] (Host.dotGeneral dot_S8192x128x3_S128x128_S8192x3x128_1_1_02_0_n_n none x w)
    transposes_S8192x3x128_S8192x128x3_0_2_1

theorem linV_at (x : FVec Ideal S8192x128x3 .f32) (w : FVec Ideal S128x128 .f32) (n : Fin 8192) (o : Fin 128) (d : Fin 3) :
    linV x w (ix3 n o d) = ∑ c : Fin 128, x (ix3 n c d) * w (ix2 o c) := by
  pointwise [linV]

/-- The rows' channels, split into heads. -/
def headsV (x : FVec Ideal S8192x128x3 .f32) : FVec Ideal S8192x8x16x3 .f32 := shapeCast _ x shapeCasts_S8192x128x3_S8192x8x16x3

theorem headsV_at (x : FVec Ideal S8192x128x3 .f32) (n : Fin 8192) (h : Fin 8) (c : Fin 16) (d : Fin 3) :
    headsV x (ix4 n h c d) = x (ix3 n (chan h c) d) := by
  pointwise [headsV]
  rfl

/-- The rows the indices name. -/
def takenV (x : FVec Ideal S8192x128x3 .f32) (idx : IVec S8192x16 32) : FVec Ideal S8192x16x8x16x3 .f32 :=
  shapeCast _ (Host.gather gather_S8192x128x3_S8192x16x1_S8192x16x128x3_23_0_n_n_0_2_11283 x
    (broadcastInDim S8192x16x1 ![0, 1] bcast_S8192x16_S8192x16x1_0_1 idx)) shapeCasts_S8192x16x128x3_S8192x16x8x16x3

theorem gather_at (x : FVec Ideal S8192x128x3 .f32) (idx : IVec S8192x16x1 32) (n : Fin 8192) (l : Fin 16) (c : Fin 128) (d : Fin 3) :
    Host.gather gather_S8192x128x3_S8192x16x1_S8192x16x128x3_23_0_n_n_0_2_11283 x idx (ix4 n l c d)
      = x (ix3 ⟨min (idx (ix3 n l 0)).toInt.toNat 8191, by omega⟩ c d) := by
  unfold Host.gather
  refine congrArg x (funext fun a => Fin.ext ?_)
  set D := gather_S8192x128x3_S8192x16x1_S8192x16x128x3_23_0_n_n_0_2_11283
  have hk : ∀ b : Fin 3, b ∈ D.sKept ↔ b ≠ 0 := by decide
  have hb : ∀ b : Fin 3, b ∉ D.operandBatchingDims := fun b => List.not_mem_nil
  show D.start (ix4 n l c d) idx a + D.batchCoord (ix4 n l c d) a + D.offCoord (ix4 n l c d) a = _
  rw [D.batchCoord_eq_zero _ _ (hb a), Nat.add_zero]
  match a with
  | ⟨0, _⟩ =>
    show D.start (ix4 n l c d) idx 0 + D.offCoord (ix4 n l c d) 0 = _
    rw [D.offCoord_eq_zero _ 0 (fun h => (hk 0).1 h rfl), Nat.add_zero]
    unfold GatherDims.start
    rw [dif_pos (show (0 : Fin 3) ∈ D.startIndexMap from List.mem_singleton.mpr rfl)]
    have hsi : D.siIdx (ix4 n l c d) ⟨List.idxOf (0 : Fin 3) D.startIndexMap,
        List.idxOf_lt_length_iff.2 (List.mem_singleton.mpr rfl)⟩ = ix3 n l 0 := by
      funext b
      refine Fin.ext ?_
      match b with
      | ⟨0, _⟩ => rfl
      | ⟨1, _⟩ => rfl
      | ⟨2, _⟩ => rfl
    rw [hsi]
    rfl
  | ⟨1, _⟩ =>
    show D.start (ix4 n l c d) idx 1 + D.offCoord (ix4 n l c d) 1 = _
    unfold GatherDims.start GatherDims.offCoord
    rw [dif_neg (show (1 : Fin 3) ∉ D.startIndexMap by decide), dif_pos ((hk 1).2 (by decide)), Nat.zero_add]
    rfl
  | ⟨2, _⟩ =>
    show D.start (ix4 n l c d) idx 2 + D.offCoord (ix4 n l c d) 2 = _
    unfold GatherDims.start GatherDims.offCoord
    rw [dif_neg (show (2 : Fin 3) ∉ D.startIndexMap by decide), dif_pos ((hk 2).2 (by decide)), Nat.zero_add]
    rfl

theorem takenV_at (x : FVec Ideal S8192x128x3 .f32) (idx : IVec S8192x16 32) (n : Fin 8192) (l : Fin 16) (h : Fin 8) (c : Fin 16)
    (d : Fin 3) : takenV x idx (ix5 n l h c d) = x (ix3 ⟨min (idx (ix2 n l)).toInt.toNat 8191, by omega⟩ (chan h c) d) := by
  pointwise [takenV, gather_at]
  rfl

/-- The products of the rows' queries and the keys their indices name. -/
def rawV (q : FVec Ideal S8192x8x16x3 .f32) (k : FVec Ideal S8192x16x8x16x3 .f32) : FVec Ideal S8192x8x16 .f32 :=
  Host.dotGeneral dot_S8192x8x16x3_S8192x16x8x16x3_S8192x8x16_23_34_n_1_01_02 none q k

theorem rawV_at (q : FVec Ideal S8192x8x16x3 .f32) (k : FVec Ideal S8192x16x8x16x3 .f32) (n : Fin 8192) (h : Fin 8) (l : Fin 16) :
    rawV q k (ix3 n h l) = ∑ c : Fin 16, ∑ d : Fin 3, q (ix4 n h c d) * k (ix5 n l h c d) := by
  pointwise [rawV]

/-- The weighted sums of the values the indices name. -/
def valueV (w : FVec Ideal S8192x8x16 .f32) (v : FVec Ideal S8192x16x8x16x3 .f32) : FVec Ideal S8192x128x3 .f32 :=
  shapeCast _ (Host.dotGeneral dot_S8192x8x16_S8192x16x8x16x3_S8192x8x16x3_2_1_n_34_01_02 none w v) shapeCasts_S8192x8x16x3_S8192x128x3

theorem valueV_at (w : FVec Ideal S8192x8x16 .f32) (v : FVec Ideal S8192x16x8x16x3 .f32) (n : Fin 8192) (h : Fin 8) (c : Fin 16) (d : Fin 3) :
    valueV w v (ix3 n (chan h c) d) = ∑ l : Fin 16, w (ix3 n h l) * v (ix5 n l h c d) := by
  have h1 : (chan h c).val / 16 = h.val := by show (h.val * 16 + c.val) / 16 = _; omega
  have h2 : (chan h c).val % 16 = c.val := by show (h.val * 16 + c.val) % 16 = _; omega
  pointwise [valueV]
  simp only [h1, h2]

/-! ## The softmax over the listed keys -/

/-- Which indices name a row, for every head. -/
def validV (i : IVec S8192x16 32) : IVec S8192x8x16 1 :=
  broadcastInDim S8192x8x16 ![0, 1, 2] bcast_S8192x1x16_S8192x8x16_0_1_2
    (broadcastInDim S8192x1x16 ![0, 2] bcast_S8192x16_S8192x1x16_0_2
      (cmpi .sge i (broadcastInDim S8192x16 ![] bcast_S_S8192x16 (constantI S_ 32 0#32))))

/-- The scores, those of a negative index at minus infinity. -/
def scoresV (i : IVec S8192x16 32) (s : FVec Ideal S8192x8x16 .f32) : FVec Ideal S8192x8x16 .f32 :=
  select (validV i) (Host.divf s (broadcastInDim S8192x8x16 ![] bcast_S_S8192x8x16 (Host.sqrt (constant S_ .f32 0x42400000#32))))
    (broadcastInDim S8192x8x16 ![] bcast_S_S8192x8x16 (id (constant S_ .f32 0xFF800000#32)))

/-- The exponentials of the scores less their greatest. -/
def expV (s : FVec Ideal S8192x8x16 .f32) : FVec Ideal S8192x8x16 .f32 :=
  Host.exp (subf s (broadcastInDim S8192x8x16 ![0, 1, 2] bcast_S8192x8x1_S8192x8x16_0_1_2
    (broadcastInDim S8192x8x1 ![0, 1] bcast_S8192x8_S8192x8x1_0_1
      (maximumf (broadcastInDim S8192x8 ![] bcast_S_S8192x8 (constant S_ .f32 0xFF800000#32))
        (Host.reduce FloatOps.maximumf s (constant S_ .f32 0xFF800000#32) reducesTo_S8192x8x16_S8192x8_d2 h_S_)))))

/-- The weights: the exponentials over their sum, nothing at a negative index. -/
def weightsV (i : IVec S8192x16 32) (e : FVec Ideal S8192x8x16 .f32) : FVec Ideal S8192x8x16 .f32 :=
  select (validV i) (Host.divf e (broadcastInDim S8192x8x16 ![0, 1, 2] bcast_S8192x8x1_S8192x8x16_0_1_2
      (broadcastInDim S8192x8x1 ![0, 1] bcast_S8192x8_S8192x8x1_0_1
        (Host.reduceAdd e (constant S_ .f32 0x00000000#32) reducesTo_S8192x8x16_S8192x8_d2 h_S_))))
    (broadcastInDim S8192x8x16 ![] bcast_S_S8192x8x16 (id (constant S_ .f32 0x00000000#32)))

/-- The names of a row's indices. -/
def rowIdx (i : IVec S8192x16 32) (n : Fin 8192) (l : Fin 16) : BitVec 32 := i (ix2 n l)

/-- The root the scores are divided by. -/
def root : EReal := Ideal.sqrt (Ideal.ofBits .f32 0x42400000#32)

theorem neg_inf : Ideal.ofBits .f32 0xFF800000#32 = ⊥ := by simp [Ideal.ofBits, Ideal.ieee]

/-- A choice by a word's sign. -/
theorem select_ge {α : Type} (a : BitVec 32) (x y : α) : Scalar.select (IntOp.cmpi .sge a 0#32) x y = if 0 ≤ a.toInt then x else y := by
  have h : IntOp.cmpi .sge a 0#32 = BitVec.ofBool (decide (0 ≤ a.toInt)) := rfl
  rw [h]
  by_cases h1 : 0 ≤ a.toInt
  · rw [decide_eq_true h1, if_pos h1]; rfl
  · rw [decide_eq_false h1, if_neg h1]; rfl

theorem select_lt {α : Type} (a : BitVec 32) (x y : α) : Scalar.select (IntOp.cmpi .slt a 0#32) x y = if a.toInt < 0 then x else y := by
  have h : IntOp.cmpi .slt a 0#32 = BitVec.ofBool (decide (a.toInt < 0)) := rfl
  rw [h]
  by_cases h1 : a.toInt < 0
  · rw [decide_eq_true h1, if_pos h1]; rfl
  · rw [decide_eq_false h1, if_neg h1]; rfl

theorem scoresV_at (i : IVec S8192x16 32) (s : FVec Ideal S8192x8x16 .f32) (n : Fin 8192) (h : Fin 8) (l : Fin 16) :
    scoresV i s (ix3 n h l) = masked (names (rowIdx i n)) (fun l => Ideal.div (s (ix3 n h l)) root) l := by
  pointwise [scoresV, validV, masked, names, rowIdx, root]
  rw [select_ge]
  exact if_congr Iff.rfl rfl neg_inf

theorem expV_at (s : FVec Ideal S8192x8x16 .f32) (n : Fin 8192) (h : Fin 8) (l : Fin 16) :
    expV s (ix3 n h l) = Ideal.exp (s (ix3 n h l) - Finset.univ.fold max ⊥ fun l => s (ix3 n h l)) := by
  pointwise [expV]
  rw [neg_inf, max_eq_right bot_le]

theorem weightsV_at (i : IVec S8192x16 32) (e : FVec Ideal S8192x8x16 .f32) (n : Fin 8192) (h : Fin 8) (l : Fin 16) :
    weightsV i e (ix3 n h l) = if names (rowIdx i n) l then Ideal.div (e (ix3 n h l)) (∑ l, e (ix3 n h l)) else 0 := by
  pointwise [weightsV, validV, names, rowIdx]
  rw [select_ge]
  exact if_congr Iff.rfl rfl Ideal.ofBits_zero_f32

end Cert.Proof.Ref
-- ==== Proof.RefRows.lean ====
/- The rows the reference's indices name: a sequence's first row, and the index counted from it. -/
module

public import proofs.«01_k».proof.Proof.RefAttention
public import Idealize.ShloMosaic.Lib.Routing.OpsOne

@[expose] public section

set_option maxRecDepth 16384
set_option maxHeartbeats 2000000

noncomputable section

namespace Cert.Proof.Ref

open Idealize.ShloMosaic Idealize.ShloMosaic.TcCoe Idealize.SL.Sem
open Cert.ReferenceIdeal Cert.ReferenceIdeal.Gen Cert.ReferenceIdeal.Value

/-- Row `j` of sequence `b`. -/
def rowOf (b : Fin 8) (j : Fin 1024) : Fin 8192 := ⟨b.val * 1024 + j.val, by omega⟩

/-- The sequences' first rows, from the sequences' lengths. -/
def firstsV (cnt : IVec S8 32) : IVec S8 32 :=
  concatenate S8 0 [⟨S1, (broadcastInDim S1 ![] bcast_S_S1 (constantI S_ 32 0#32))⟩,
    ⟨S7, (extractStridedSlice S7 ![0] (Host.reduceWindow IntOp.addi ![8] ![1] ![7] ![0] cnt
      (broadcastInDim S_ ![] bcast_S_S_ (constantI S_ 32 0#32)) reduceWindows_S8_S8_w8s1p7_0 h_S_) slices_S8_S7_0)⟩]
    concatenates_S1_S7_S8_d0

/-- The first row of every row's sequence. -/
def startsV (cnt : IVec S8 32) (bat : IVec S8192 32) : IVec S8192 32 :=
  Host.gather gather_S8_S8192x1_S8192_n_0_n_n_0_1_1 (firstsV cnt) (broadcastInDim S8192x1 ![0] bcast_S8192_S8192x1_0
    (select (cmpi .slt bat (broadcastInDim S8192 ![] bcast_S_S8192 (constantI S_ 32 0#32)))
      (addi bat (broadcastInDim S8192 ![] bcast_S_S8192 (constantI S_ 32 8#32))) bat))

/-- The indices counted from the first row, the negative ones as zero. -/
def offsetV (i : IVec S8192x16 32) (st : IVec S8192 32) : IVec S8192x16 32 :=
  addi (select (cmpi .sge i (broadcastInDim S8192x16 ![] bcast_S_S8192x16 (constantI S_ 32 0#32))) i
      (broadcastInDim S8192x16 ![] bcast_S_S8192x16 (id (constantI S_ 32 0#32))))
    (broadcastInDim S8192x16 ![0, 1] bcast_S8192x1_S8192x16_0_1 (broadcastInDim S8192x1 ![0] bcast_S8192_S8192x1_0 st))

/-- A negative row, counted from the end. -/
def wrapV (v : IVec S8192x16 32) : IVec S8192x16 32 :=
  select (cmpi .slt v (broadcastInDim S8192x16 ![] bcast_S_S8192x16 (constantI S_ 32 0#32)))
    (addi v (broadcastInDim S8192x16 ![] bcast_S_S8192x16 (constantI S_ 32 8192#32))) v

/-- Every sequence being of 1024 rows, sequence `b` starts at row `1024 b`. -/
theorem firstsV_at (cnt : IVec S8 32) (hc : ∀ b : Fin 8, cnt (ix1 b) = 1024#32) (b : Fin 8) :
    firstsV cnt (ix1 b) = BitVec.ofNat 32 (b.val * 1024) := by
  have hs : ∀ j : Fin 8, Host.reduceWindow IntOp.addi ![8] ![1] ![7] ![0] cnt
      (broadcastInDim S_ ![] bcast_S_S_ (constantI S_ 32 0#32)) reduceWindows_S8_S8_w8s1p7_0 h_S_ (ix1 j)
      = BitVec.ofNat 32 ((j.val + 1) * 1024) := fun j => by
    refine (Routing.cumsum_vec (N := 8) (Nm1 := 7) rfl cnt _ rfl _ _ j).trans ?_
    refine (Finset.sum_congr rfl fun i _ => congrArg (fun z => if i ≤ j then z else 0) (hc i)).trans ?_
    clear hc
    revert j
    decide
  unfold firstsV
  generalize Host.reduceWindow IntOp.addi ![8] ![1] ![7] ![0] cnt
      (broadcastInDim S_ ![] bcast_S_S_ (constantI S_ 32 0#32)) reduceWindows_S8_S8_w8s1p7_0 h_S_ = w at hs
  pointwise
  by_cases h : b.val < 1
  · rw [dif_pos h, show b.val = 0 by omega]
  · rw [dif_neg h]
    refine (hs _).trans ?_
    exact congrArg _ (congrArg (· * 1024) (show b.val - 1 + 1 = b.val by omega))

theorem startsV_at (cnt : IVec S8 32) (bat : IVec S8192 32) (hc : ∀ b : Fin 8, cnt (ix1 b) = 1024#32) (b : Fin 8) (n : Fin 8192)
    (hb : bat (ix1 n) = BitVec.ofNat 32 b.val) : startsV cnt bat (ix1 n) = BitVec.ofNat 32 (b.val * 1024) := by
  unfold startsV
  rw [← firstsV_at cnt hc b]
  refine Routing.gather_take1 (N := 8) (n := 8192) _ rfl rfl rfl rfl (firstsV cnt) _ n b ?_ (by norm_num)
  pointwise
  rw [hb]
  clear hb hc
  revert b
  decide

/-- An index that names a key names the key's row. -/
theorem wrap_offset_at (i : IVec S8192x16 32) (st : IVec S8192 32) (b : Fin 8) (n : Fin 8192) (l : Fin 16)
    (hs : st (ix1 n) = BitVec.ofNat 32 (b.val * 1024)) (h0 : 0 ≤ (i (ix2 n l)).toInt) (h1 : (i (ix2 n l)).toInt < 1024) :
    min (wrapV (offsetV i st) (ix2 n l)).toInt.toNat 8191 = (rowOf b (keyOf (rowIdx i n) l)).val := by
  pointwise [wrapV, offsetV]
  rw [select_ge, if_pos h0, hs, select_lt]
  have hk : (i (ix2 n l)).toNat < 1024 := by
    have := BitVec.toInt_eq_toNat_cond (i (ix2 n l))
    split_ifs at this <;> omega
  have ha : i (ix2 n l) = BitVec.ofNat 32 (i (ix2 n l)).toNat := by simp
  have hr : (rowOf b (keyOf (rowIdx i n) l)).val = b.val * 1024 + (i (ix2 n l)).toNat := by
    show b.val * 1024 + (i (ix2 n l)).toNat % 1024 = _
    rw [Nat.mod_eq_of_lt hk]
  have hb := b.isLt
  rw [hr]
  generalize (i (ix2 n l)).toNat = k at hk ha
  have hsum : IntOp.addi (i (ix2 n l)) (BitVec.ofNat 32 (b.val * 1024)) = BitVec.ofNat 32 (b.val * 1024 + k) := by
    rw [ha]
    show BitVec.ofNat 32 k + _ = _
    rw [← BitVec.ofNat_add, Nat.add_comm]
  have hi : (BitVec.ofNat 32 (b.val * 1024 + k)).toInt = ((b.val * 1024 + k : Nat) : Int) :=
    StableHlo.Predicate.toInt_ofNat_small _ (by omega)
  rw [hsum, hi, if_neg (by omega), hi]
  omega

end Cert.Proof.Ref
-- ==== Proof.Args.lean ====
/- The arguments as both programs read them, row by row. -/
module

public import proofs.«01_k».proof.Proof.RefRows
public import proofs.«01_k».proof.Proof.Layers

@[expose] public section

set_option maxRecDepth 16384
set_option maxHeartbeats 2000000

noncomputable section

namespace Cert.Proof

open Idealize.ShloMosaic Idealize.ShloMosaic.TcCoe Idealize.SL.Sem
open Cert.ReferenceIdeal

/-- The rows of sequence `b`: component `d` of channel `k` is column `3 k + d`. -/
def batchRows (x : FVec Ideal S8192x384 .f32) (b : Fin 8) (j : Fin 1024) : Row :=
  fun d k => x (ix2 (Ref.rowOf b j) ⟨k.val * 3 + d.val, by omega⟩)

/-- The weights of the attention, from their arrays. -/
def headsOf (wq wk wv wo : FVec Ideal S128x128 .f32) : Heads where
  wq o c := wq (ix2 o c)
  wk o c := wk (ix2 o c)
  wv o c := wv (ix2 o c)
  wo o c := wo (ix2 o c)

/-- The weights of the layers, from their arrays. -/
def paramsOf (g1 b1 : FVec Ideal S128 .f32) (w wd : FVec Ideal S512x128 .f32) (w2 : FVec Ideal S128x512 .f32)
    (g2 b2 : FVec Ideal S128 .f32) : Params where
  g1 c := g1 (ix1 c)
  b1 c := b1 (ix1 c)
  w e c := w (ix2 e c)
  wd e c := wd (ix2 e c)
  w2 o e := w2 (ix2 o e)
  g2 c := g2 (ix1 c)
  b2 c := b2 (ix1 c)

end Cert.Proof
-- ==== Proof.Array.lean ====
/- What the kernel leaves in its array: every block, and the array they make up. -/
module

public import proofs.«01_k».proof.Proof.Operands
public import proofs.«01_k».proof.Proof.Args
public import Idealize.ShloMosaic.Lib.Pipeline.ValueKit
public import Idealize.ShloMosaic.Lib.Pipeline.Value

@[expose] public section

set_option maxRecDepth 16384
set_option maxHeartbeats 2000000

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## The blocks, in their arrays -/

/-- The sequence a grid point handles. -/
def seqOf (t : Fin cfg0.N) : Fin 8 := ⟨t.val, by have := t.isLt; have := N_0; exact lt_of_lt_of_eq t.isLt N_0⟩

theorem index0 : ∀ t : Fin cfg0.N, win0_0.index t (0 : Fin 3) = 0 ∧ win0_0.index t (1 : Fin 3) = t.val ∧ win0_0.index t (2 : Fin 3) = 0 :=
  (by decide +kernel : ∀ t : Fin grid0.N, _)

theorem index1 : ∀ t : Fin cfg0.N, win0_1.index t (0 : Fin 2) = t.val ∧ win0_1.index t (1 : Fin 2) = 0 :=
  (by decide +kernel : ∀ t : Fin grid0.N, _)

theorem index13 : ∀ t : Fin cfg0.N, win0_13.index t (0 : Fin 3) = 0 ∧ win0_13.index t (1 : Fin 3) = t.val ∧ win0_13.index t (2 : Fin 3) = 0 :=
  (by decide +kernel : ∀ t : Fin grid0.N, _)

theorem iblk0_at (t : Fin cfg0.N) (d : Fin 3) (r : Fin 1024) (k : Fin 128) :
    (iblk m c 0 t : FVec Ideal S3x1024x128 .f32) (ix3 d r k) = V m c main_v1 (ix3 d (Ref.rowOf (seqOf t) r) k) := by
  show V m c main_v1 (((cfg0.win 0).blk t).view.emb (ix3 d r k)) = _
  obtain ⟨e0, e1, e2⟩ := index0 t
  refine congrArg (V m c main_v1) (funext fun a => Fin.ext ?_)
  match a with
  | ⟨0, _⟩ => show win0_0.index t (0 : Fin 3) * 3 + 1 * d.val = d.val; omega
  | ⟨1, _⟩ => show win0_0.index t (1 : Fin 3) * 1024 + 1 * r.val = t.val * 1024 + r.val; omega
  | ⟨2, _⟩ => show win0_0.index t (2 : Fin 3) * 128 + 1 * k.val = k.val; omega

theorem iblk1_at (t : Fin cfg0.N) (r : Fin 1024) (l : Fin 16) :
    (iblk m c 1 t : IVec S1024x16 32) (ix2 r l) = m ((c.tc : Thread nD τ).loc main_arg1) (ix2 (Ref.rowOf (seqOf t) r) l) := by
  rw [← V_main_arg1 m c]
  show V m c main_arg1 (((cfg0.win 1).blk t).view.emb (ix2 r l)) = _
  obtain ⟨e0, e1⟩ := index1 t
  refine congrArg (V m c main_arg1) (funext fun a => Fin.ext ?_)
  match a with
  | ⟨0, _⟩ => show win0_1.index t (0 : Fin 2) * 1024 + 1 * r.val = t.val * 1024 + r.val; omega
  | ⟨1, _⟩ => show win0_1.index t (1 : Fin 2) * 16 + 1 * l.val = l.val; omega

theorem index2 : ∀ t : Fin cfg0.N, win0_2.index t (0 : Fin 3) = 0 ∧ win0_2.index t (1 : Fin 3) = 0 ∧ win0_2.index t (2 : Fin 3) = 0 :=
  (by decide +kernel : ∀ t : Fin grid0.N, _)

theorem iblk2_eq (t : Fin cfg0.N) : (iblk m c 2 t : FVec Ideal S3x128x1024 .f32) = V m c main_v35 := by
  funext z
  show V m c main_v35 (((cfg0.win 2).blk t).view.emb z) = _
  obtain ⟨e0, e1, e2⟩ := index2 t
  refine congrArg (V m c main_v35) (funext fun a => Fin.ext ?_)
  match a with
  | ⟨0, _⟩ => show win0_2.index t (0 : Fin 3) * 3 + 1 * (z 0).val = (z 0).val; omega
  | ⟨1, _⟩ => show win0_2.index t (1 : Fin 3) * 128 + 1 * (z 1).val = (z 1).val; omega
  | ⟨2, _⟩ => show win0_2.index t (2 : Fin 3) * 1024 + 1 * (z 2).val = (z 2).val; omega

theorem index3 : ∀ t : Fin cfg0.N, win0_3.index t (0 : Fin 3) = 0 ∧ win0_3.index t (1 : Fin 3) = 0 ∧ win0_3.index t (2 : Fin 3) = 0 :=
  (by decide +kernel : ∀ t : Fin grid0.N, _)

theorem iblk3_eq (t : Fin cfg0.N) : (iblk m c 3 t : FVec Ideal S3x128x1024 .f32) = V m c main_v69 := by
  funext z
  show V m c main_v69 (((cfg0.win 3).blk t).view.emb z) = _
  obtain ⟨e0, e1, e2⟩ := index3 t
  refine congrArg (V m c main_v69) (funext fun a => Fin.ext ?_)
  match a with
  | ⟨0, _⟩ => show win0_3.index t (0 : Fin 3) * 3 + 1 * (z 0).val = (z 0).val; omega
  | ⟨1, _⟩ => show win0_3.index t (1 : Fin 3) * 128 + 1 * (z 1).val = (z 1).val; omega
  | ⟨2, _⟩ => show win0_3.index t (2 : Fin 3) * 1024 + 1 * (z 2).val = (z 2).val; omega

theorem index4 : ∀ t : Fin cfg0.N, win0_4.index t (0 : Fin 3) = 0 ∧ win0_4.index t (1 : Fin 3) = 0 ∧ win0_4.index t (2 : Fin 3) = 0 :=
  (by decide +kernel : ∀ t : Fin grid0.N, _)

theorem iblk4_eq (t : Fin cfg0.N) : (iblk m c 4 t : FVec Ideal S3x128x1024 .f32) = V m c main_v103 := by
  funext z
  show V m c main_v103 (((cfg0.win 4).blk t).view.emb z) = _
  obtain ⟨e0, e1, e2⟩ := index4 t
  refine congrArg (V m c main_v103) (funext fun a => Fin.ext ?_)
  match a with
  | ⟨0, _⟩ => show win0_4.index t (0 : Fin 3) * 3 + 1 * (z 0).val = (z 0).val; omega
  | ⟨1, _⟩ => show win0_4.index t (1 : Fin 3) * 128 + 1 * (z 1).val = (z 1).val; omega
  | ⟨2, _⟩ => show win0_4.index t (2 : Fin 3) * 1024 + 1 * (z 2).val = (z 2).val; omega

theorem index5 : ∀ t : Fin cfg0.N, win0_5.index t (0 : Fin 3) = 0 ∧ win0_5.index t (1 : Fin 3) = 0 ∧ win0_5.index t (2 : Fin 3) = 0 :=
  (by decide +kernel : ∀ t : Fin grid0.N, _)

theorem iblk5_eq (t : Fin cfg0.N) : (iblk m c 5 t : FVec Ideal S3x1024x128 .f32) = V m c main_v140 := by
  funext z
  show V m c main_v140 (((cfg0.win 5).blk t).view.emb z) = _
  obtain ⟨e0, e1, e2⟩ := index5 t
  refine congrArg (V m c main_v140) (funext fun a => Fin.ext ?_)
  match a with
  | ⟨0, _⟩ => show win0_5.index t (0 : Fin 3) * 3 + 1 * (z 0).val = (z 0).val; omega
  | ⟨1, _⟩ => show win0_5.index t (1 : Fin 3) * 1024 + 1 * (z 1).val = (z 1).val; omega
  | ⟨2, _⟩ => show win0_5.index t (2 : Fin 3) * 128 + 1 * (z 2).val = (z 2).val; omega

theorem index6 : ∀ t : Fin cfg0.N, win0_6.index t (0 : Fin 2) = 0 ∧ win0_6.index t (1 : Fin 2) = 0 :=
  (by decide +kernel : ∀ t : Fin grid0.N, _)

theorem iblk6_eq (t : Fin cfg0.N) : (iblk m c 6 t : FVec Ideal S128x512 .f32) = V m c main_v141 := by
  funext z
  show V m c main_v141 (((cfg0.win 6).blk t).view.emb z) = _
  obtain ⟨e0, e1⟩ := index6 t
  refine congrArg (V m c main_v141) (funext fun a => Fin.ext ?_)
  match a with
  | ⟨0, _⟩ => show win0_6.index t (0 : Fin 2) * 128 + 1 * (z 0).val = (z 0).val; omega
  | ⟨1, _⟩ => show win0_6.index t (1 : Fin 2) * 512 + 1 * (z 1).val = (z 1).val; omega

theorem index7 : ∀ t : Fin cfg0.N, win0_7.index t (0 : Fin 2) = 0 ∧ win0_7.index t (1 : Fin 2) = 0 :=
  (by decide +kernel : ∀ t : Fin grid0.N, _)

theorem iblk7_eq (t : Fin cfg0.N) : (iblk m c 7 t : FVec Ideal S128x512 .f32) = V m c main_v142 := by
  funext z
  show V m c main_v142 (((cfg0.win 7).blk t).view.emb z) = _
  obtain ⟨e0, e1⟩ := index7 t
  refine congrArg (V m c main_v142) (funext fun a => Fin.ext ?_)
  match a with
  | ⟨0, _⟩ => show win0_7.index t (0 : Fin 2) * 128 + 1 * (z 0).val = (z 0).val; omega
  | ⟨1, _⟩ => show win0_7.index t (1 : Fin 2) * 512 + 1 * (z 1).val = (z 1).val; omega

theorem index8 : ∀ t : Fin cfg0.N, win0_8.index t (0 : Fin 2) = 0 ∧ win0_8.index t (1 : Fin 2) = 0 :=
  (by decide +kernel : ∀ t : Fin grid0.N, _)

theorem iblk8_eq (t : Fin cfg0.N) : (iblk m c 8 t : FVec Ideal S512x128 .f32) = V m c main_v143 := by
  funext z
  show V m c main_v143 (((cfg0.win 8).blk t).view.emb z) = _
  obtain ⟨e0, e1⟩ := index8 t
  refine congrArg (V m c main_v143) (funext fun a => Fin.ext ?_)
  match a with
  | ⟨0, _⟩ => show win0_8.index t (0 : Fin 2) * 512 + 1 * (z 0).val = (z 0).val; omega
  | ⟨1, _⟩ => show win0_8.index t (1 : Fin 2) * 128 + 1 * (z 1).val = (z 1).val; omega

theorem index9 : ∀ t : Fin cfg0.N, win0_9.index t (0 : Fin 2) = 0 ∧ win0_9.index t (1 : Fin 2) = 0 :=
  (by decide +kernel : ∀ t : Fin grid0.N, _)

theorem iblk9_eq (t : Fin cfg0.N) : (iblk m c 9 t : FVec Ideal S1x128 .f32) = V m c main_v144 := by
  funext z
  show V m c main_v144 (((cfg0.win 9).blk t).view.emb z) = _
  obtain ⟨e0, e1⟩ := index9 t
  refine congrArg (V m c main_v144) (funext fun a => Fin.ext ?_)
  match a with
  | ⟨0, _⟩ => show win0_9.index t (0 : Fin 2) * 1 + 1 * (z 0).val = (z 0).val; omega
  | ⟨1, _⟩ => show win0_9.index t (1 : Fin 2) * 128 + 1 * (z 1).val = (z 1).val; omega

theorem index10 : ∀ t : Fin cfg0.N, win0_10.index t (0 : Fin 2) = 0 ∧ win0_10.index t (1 : Fin 2) = 0 :=
  (by decide +kernel : ∀ t : Fin grid0.N, _)

theorem iblk10_eq (t : Fin cfg0.N) : (iblk m c 10 t : FVec Ideal S1x128 .f32) = V m c main_v145 := by
  funext z
  show V m c main_v145 (((cfg0.win 10).blk t).view.emb z) = _
  obtain ⟨e0, e1⟩ := index10 t
  refine congrArg (V m c main_v145) (funext fun a => Fin.ext ?_)
  match a with
  | ⟨0, _⟩ => show win0_10.index t (0 : Fin 2) * 1 + 1 * (z 0).val = (z 0).val; omega
  | ⟨1, _⟩ => show win0_10.index t (1 : Fin 2) * 128 + 1 * (z 1).val = (z 1).val; omega

theorem index11 : ∀ t : Fin cfg0.N, win0_11.index t (0 : Fin 2) = 0 ∧ win0_11.index t (1 : Fin 2) = 0 :=
  (by decide +kernel : ∀ t : Fin grid0.N, _)

theorem iblk11_eq (t : Fin cfg0.N) : (iblk m c 11 t : FVec Ideal S1x128 .f32) = V m c main_v146 := by
  funext z
  show V m c main_v146 (((cfg0.win 11).blk t).view.emb z) = _
  obtain ⟨e0, e1⟩ := index11 t
  refine congrArg (V m c main_v146) (funext fun a => Fin.ext ?_)
  match a with
  | ⟨0, _⟩ => show win0_11.index t (0 : Fin 2) * 1 + 1 * (z 0).val = (z 0).val; omega
  | ⟨1, _⟩ => show win0_11.index t (1 : Fin 2) * 128 + 1 * (z 1).val = (z 1).val; omega

theorem index12 : ∀ t : Fin cfg0.N, win0_12.index t (0 : Fin 2) = 0 ∧ win0_12.index t (1 : Fin 2) = 0 :=
  (by decide +kernel : ∀ t : Fin grid0.N, _)

theorem iblk12_eq (t : Fin cfg0.N) : (iblk m c 12 t : FVec Ideal S1x128 .f32) = V m c main_v147 := by
  funext z
  show V m c main_v147 (((cfg0.win 12).blk t).view.emb z) = _
  obtain ⟨e0, e1⟩ := index12 t
  refine congrArg (V m c main_v147) (funext fun a => Fin.ext ?_)
  match a with
  | ⟨0, _⟩ => show win0_12.index t (0 : Fin 2) * 1 + 1 * (z 0).val = (z 0).val; omega
  | ⟨1, _⟩ => show win0_12.index t (1 : Fin 2) * 128 + 1 * (z 1).val = (z 1).val; omega

/-! ## What a block holds -/

/-- The weights of the attention. -/
abbrev headsK : Heads := headsOf (m ((c.tc : Thread nD τ).loc main_arg5)) (m ((c.tc : Thread nD τ).loc main_arg6))
  (m ((c.tc : Thread nD τ).loc main_arg7)) (m ((c.tc : Thread nD τ).loc main_arg8))

/-- The weights of the layers. -/
abbrev paramsK : Params := paramsOf (m ((c.tc : Thread nD τ).loc main_arg9)) (m ((c.tc : Thread nD τ).loc main_arg10))
  (m ((c.tc : Thread nD τ).loc main_arg11)) (m ((c.tc : Thread nD τ).loc main_arg12)) (m ((c.tc : Thread nD τ).loc main_arg13))
  (m ((c.tc : Thread nD τ).loc main_arg14)) (m ((c.tc : Thread nD τ).loc main_arg15))

/-- Row `r` of sequence `b`, as the kernel computes it. -/
def kernelRow (b : Fin 8) (r : Fin 1024) : Row :=
  layersK (paramsK m c) (attendK (headsK m c) factor (batchRows (m ((c.tc : Thread nD τ).loc main_arg0)) b)
    (listed (names (Ref.rowIdx (m ((c.tc : Thread nD τ).loc main_arg1)) (Ref.rowOf b r)))
      (keyOf (Ref.rowIdx (m ((c.tc : Thread nD τ).loc main_arg1)) (Ref.rowOf b r)))) r)

/-- The block a grid point writes back holds the rows of its sequence. -/
theorem block_at (hx : ∀ n l, (m ((c.tc : Thread nD τ).loc main_arg1) (ix2 n l) : BitVec 32).toInt < 1024)
    (t : Fin cfg0.N) (d : Fin 3) (r : Fin 1024) (k : Fin 128) :
    outV (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix3 d r k)
      = kernelRow m c (seqOf t) r d k := by
  have hq : Packs (iblk m c 2 t) (headsK m c).wq := by
    rw [iblk2_eq, v35_eq]; exact packedV_packs _
  have hk : Packs (iblk m c 3 t) (headsK m c).wk := by
    rw [iblk3_eq, v69_eq]; exact packedV_packs _
  have hv : Packs (iblk m c 4 t) (headsK m c).wv := by
    rw [iblk4_eq, v103_eq]; exact packedV_packs _
  have ho : PacksOut (iblk m c 5 t) (headsK m c).wo := by
    rw [iblk5_eq, v140_eq]
    have e : (headsK m c).wo = fun o k => transpose S128x128 [1, 0] (m ((c.tc : Thread nD τ).loc main_arg8)) transposes_S128x128_S128x128_1_0 (ix2 k o) := by
      funext o k
      pointwise
      rfl
    rw [e]
    exact packedOutV_packs _
  have hp : blockParams (iblk m c 6 t) (iblk m c 7 t) (iblk m c 8 t) (iblk m c 9 t) (iblk m c 10 t) (iblk m c 11 t) (iblk m c 12 t)
      = paramsK m c := by
    rw [iblk6_eq, iblk7_eq, iblk8_eq, iblk9_eq, iblk10_eq, iblk11_eq, iblk12_eq]
    unfold blockParams paramsK paramsOf
    congr 1
    · exact funext fun k => v144_at m c k
    · exact funext fun k => v145_at m c k
    · exact funext fun e => funext fun k => v141_at m c k e
    · exact funext fun e => funext fun k => v142_at m c k e
    · exact funext fun o => funext fun e => v143_at m c e o
    · exact funext fun k => v146_at m c k
    · exact funext fun k => v147_at m c k
  have hr : blockRows (iblk m c 0 t) = batchRows (m ((c.tc : Thread nD τ).loc main_arg0)) (seqOf t) := by
    funext j d k
    exact (iblk0_at m c t d j k).trans (v1_at m c d _ k)
  have hi : blockIdx (iblk m c 1 t) r = Ref.rowIdx (m ((c.tc : Thread nD τ).loc main_arg1)) (Ref.rowOf (seqOf t) r) :=
    funext fun l => iblk1_at m c t r l
  rw [outV_at]
  refine (congrFun (congrFun (lastV_at _ _ _ _ _ _ _ _ _ _ _ _ _ (headsK m c) hq hk hv ho r fun l => ?_) d) k).trans ?_
  · exact lt_of_eq_of_lt (congrArg BitVec.toInt (iblk1_at m c t r l)) (hx _ l)
  · rw [hp, hr, hi]
    rfl

/-! ## The array -/

/-- What the array holds at the end. -/
def arrayK : FVec Ideal S3x8192x128 .f32 := fun i =>
  kernelRow m c ⟨(i 1).val / 1024, by have : (i 1).val < 8192 := (i 1).isLt; omega⟩ ⟨(i 1).val % 1024, by omega⟩ (i 0) (i 2)

theorem arrayK_at (d : Fin 3) (b : Fin 8) (r : Fin 1024) (k : Fin 128) :
    arrayK m c (ix3 d (Ref.rowOf b r) k) = kernelRow m c b r d k := by
  have e1 : (b.val * 1024 + r.val) / 1024 = b.val := by omega
  have e2 : (b.val * 1024 + r.val) % 1024 = r.val := by omega
  show kernelRow m c ⟨(b.val * 1024 + r.val) / 1024, _⟩ ⟨(b.val * 1024 + r.val) % 1024, _⟩ d k = _
  simp only [e1, e2]

theorem final13 (hx : ∀ n l, (m ((c.tc : Thread nD τ).loc main_arg1) (ix2 n l) : BitVec 32).toInt < 1024) :
    (dats m 0 c).arrAt 13 cfg0.N = arrayK m c := by
  refine (dats m 0 c).arrAt_eq_of_covers 13 _ (by decide +kernel) fun t hf y => ?_
  blk_simp
  rw [after0_13, out_eq]
  obtain ⟨e0, e1, e2⟩ := index13 t
  have hy : y = ix3 (y 0) (y 1) (y 2) := by
    funext a
    match a with
    | ⟨0, _⟩ => rfl
    | ⟨1, _⟩ => rfl
    | ⟨2, _⟩ => rfl
  have he : ((cfg0.win 13).blk t).view.emb y = ix3 (y 0) (Ref.rowOf (seqOf t) (y 1)) (y 2) := by
    funext a
    refine Fin.ext ?_
    match a with
    | ⟨0, _⟩ => show win0_13.index t (0 : Fin 3) * 3 + 1 * (y 0).val = (y 0).val; omega
    | ⟨1, _⟩ => show win0_13.index t (1 : Fin 3) * 1024 + 1 * (y 1).val = t.val * 1024 + (y 1).val; omega
    | ⟨2, _⟩ => show win0_13.index t (2 : Fin 3) * 128 + 1 * (y 2).val = (y 2).val; omega
  refine Eq.trans ?_ (congrArg (arrayK m c) he).symm
  refine Eq.trans ?_ ((block_at m c hx t (y 0) (y 1) (y 2)).trans (arrayK_at m c (y 0) (seqOf t) (y 1) (y 2)).symm)
  exact congrArg _ hy

end Cert.Proof
-- ==== Proof.Run.lean ====
/- The kernel's run: the result it leaves, its arguments unchanged. -/
module

public import proofs.«01_k».proof.Proof.Array

@[expose] public section

set_option maxRecDepth 16384
set_option maxHeartbeats 2000000

noncomputable section

namespace Cert.Proof

open Idealize.ShloMosaic Idealize.ShloMosaic.TcCoe Idealize.SL.Sem
open Cert.KernelIdeal Cert.KernelIdeal.Gen

variable (m : (ℓ : Loc nD τ sig) → Buf (Elt Ideal) ℓ)

/-- The kernel's result: its array, the components last. -/
def resultK (c : Dev nD) : FVec Ideal S8192x384 .f32 :=
  shapeCast S8192x384 (transpose S8192x128x3 [1, 2, 0] (arrayK m c) transposes_S3x8192x128_S8192x128x3_1_2_0) shapeCasts_S8192x128x3_S8192x384

theorem resultK_at (c : Dev nD) (b : Fin 8) (r : Fin 1024) (o : Fin 128) (d : Fin 3) :
    resultK m c (ix2 (Ref.rowOf b r) ⟨o.val * 3 + d.val, by omega⟩) = kernelRow m c b r d o := by
  rw [← arrayK_at]
  pointwise [resultK]

/-- What the lines after the kernel's call leave in the result. -/
theorem tail_eq (c : Dev nD) (hx : ∀ n l, (m ((c.tc : Thread nD τ).loc main_arg1) (ix2 n l) : BitVec 32).toInt < 1024) :
    Pipeline.afterTail₀ cfgs (dats m) 0 (V0 m) [hostOps1] c main_v150 = resultK m c := by
  have h : Pipeline.withArrays (cfgs 0).spec c (V0 m c) (fun w => (dats m 0 c).arrAt w (cfgs 0).N) (Proc.devRef .tc main_v148)
      = arrayK m c :=
    (Pipeline.withArrays_arr spec0 (by decide) c (V0 m c) (fun w => (dats m 0 c).arrAt w cfg0.N) 13).trans (final13 m c hx)
  unfold Pipeline.afterTail₀ resultK
  rw [← h]
  generalize Pipeline.withArrays (cfgs 0).spec c (V0 m c) (fun w => (dats m 0 c).arrAt w (cfgs 0).N) = A
  simp only [List.flatten_cons, List.flatten_nil, List.append_nil]
  after_reads_simp
  rfl

/-- The run. -/
theorem run (ρ : Dev nD → PrngReg)
    (hx : ∀ (c : Dev nD) n l, (m ((c.tc : Thread nD τ).loc main_arg1) (ix2 n l) : BitVec 32).toInt < 1024) :
    θ_run defs (onTc (τ := τ) (main (F := Ideal))) ⟨m, fun _ => 0, ρ⟩ fun r => ∀ c : Dev nD,
      r.2.mem ((c.tc : Thread nD τ).loc main_v150) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨((h c).2 main_v150 (Pipeline.mem_restRefs_of main_v150 (by decide) (by decide))).trans (tail_eq m c (hx c)),
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c)⟩)
    (run_main m ρ)

end Cert.Proof
-- ==== Proof.RefLayers.lean ====
/- The arrays the reference computes the layers after the attention by, at an index. -/
module

public import proofs.«01_k».proof.Proof.Gen.ReferenceIdeal.Run
public import proofs.«01_k».proof.Proof.Layers
public import Idealize.ShloMosaic.Lib.Pointwise

@[expose] public section

set_option maxRecDepth 16384
set_option maxHeartbeats 2000000

noncomputable section

namespace Cert.Proof.Ref

open Idealize.ShloMosaic Idealize.ShloMosaic.TcCoe Idealize.SL.Sem
open Cert.ReferenceIdeal Cert.ReferenceIdeal.Gen Cert.ReferenceIdeal.Value

/-- The channels' lengths. -/
def lenV (y : FVec Ideal S8192x128x3 .f32) : FVec Ideal S8192x128x1 .f32 :=
  Host.sqrt (broadcastInDim S8192x128x1 ![0, 1] bcast_S8192x128_S8192x128x1_0_1
    (Host.reduceAdd (mulf y y) (constant S_ .f32 0x00000000#32) reducesTo_S8192x128x3_S8192x128_d2 h_S_))

/-- The lengths less their mean. -/
def devV (z : FVec Ideal S8192x128x1 .f32) : FVec Ideal S8192x128x1 .f32 :=
  subf z (broadcastInDim S8192x128x1 ![0, 1, 2] bcast_S8192x1x1_S8192x128x1_0_1_2
    (Host.divf (broadcastInDim S8192x1x1 ![0, 2] bcast_S8192x1_S8192x1x1_0_2
        (Host.reduceAdd z (constant S_ .f32 0x00000000#32) reducesTo_S8192x128x1_S8192x1_d1 h_S_))
      (broadcastInDim S8192x1x1 ![] bcast_S_S8192x1x1 (constant S_ .f32 0x43000000#32))))

/-- The number of channels, as the variance divides by it. -/
def freeV : FVec Ideal S_ .f32 := subf (constant S_ .f32 0x43000000#32) (sitofp .f32 (constantI S_ 32 0#32))

/-- The variance of the lengths, and the small number. -/
def spreadV (u : FVec Ideal S8192x128x1 .f32) (k : FVec Ideal S_ .f32) : FVec Ideal S8192x1x1 .f32 :=
  addf (select (broadcastInDim S8192x1x1 ![] bcast_S_S8192x1x1 (cmpf .ogt k (constant S_ .f32 0x00000000#32)))
      (Host.divf (broadcastInDim S8192x1x1 ![0, 2] bcast_S8192x1_S8192x1x1_0_2
          (Host.reduceAdd (mulf u u) (constant S_ .f32 0x00000000#32) reducesTo_S8192x128x1_S8192x1_d1 h_S_))
        (broadcastInDim S8192x1x1 ![] bcast_S_S8192x1x1 k))
      (broadcastInDim S8192x1x1 ![] bcast_S_S8192x1x1 (id (constant S_ .f32 0x7FC00000#32))))
    (broadcastInDim S8192x1x1 ![] bcast_S_S8192x1x1 (constant S_ .f32 0x358637BD#32))

/-- The layer normalisation. -/
def normV (y : FVec Ideal S8192x128x3 .f32) (z u : FVec Ideal S8192x128x1 .f32) (v : FVec Ideal S8192x1x1 .f32)
    (g b : FVec Ideal S128 .f32) : FVec Ideal S8192x128x3 .f32 :=
  mulf (Host.divf y (broadcastInDim S8192x128x3 ![0, 1, 2] bcast_S8192x128x1_S8192x128x3_0_1_2
      (addf z (broadcastInDim S8192x128x1 ![] bcast_S_S8192x128x1 (constant S_ .f32 0x358637BD#32)))))
    (broadcastInDim S8192x128x3 ![0, 1, 2] bcast_S8192x128x1_S8192x128x3_0_1_2
      (addf (mulf (Host.divf u (broadcastInDim S8192x128x1 ![0, 1, 2] bcast_S8192x1x1_S8192x128x1_0_1_2 (Host.sqrt v)))
          (broadcastInDim S8192x128x1 ![0, 1, 2] bcast_S1x128x1_S8192x128x1_0_1_2 (broadcastInDim S1x128x1 ![1] bcast_S128_S1x128x1_1 g)))
        (broadcastInDim S8192x128x1 ![0, 1, 2] bcast_S1x128x1_S8192x128x1_0_1_2 (broadcastInDim S1x128x1 ![1] bcast_S128_S1x128x1_1 b))))

/-- The layer normalisation of an array of rows. -/
def normedV (y : FVec Ideal S8192x128x3 .f32) (g b : FVec Ideal S128 .f32) : FVec Ideal S8192x128x3 .f32 :=
  normV y (lenV y) (devV (lenV y)) (spreadV (devV (lenV y)) freeV) g b

/-- The row at `n`. -/
def rowAt (y : FVec Ideal S8192x128x3 .f32) (n : Fin 8192) : Row := fun d c => y (ix3 n c d)

theorem lenV_at (y : FVec Ideal S8192x128x3 .f32) (n : Fin 8192) (c : Fin 128) : lenV y (ix3 n c 0) = len (rowAt y n) c := by
  pointwise [lenV, len, rowAt]
  rw [Fin.sum_univ_three]

theorem devV_at (z : FVec Ideal S8192x128x1 .f32) (n : Fin 8192) (c : Fin 128) :
    devV z (ix3 n c 0) = z (ix3 n c 0) - mean fun c => z (ix3 n c 0) := by
  pointwise [devV, mean, width]

theorem freeV_at (i : S_.Idx) : freeV i = width := by
  pointwise [freeV, width]
  have h : (FloatOps.sitofp (F := Ideal) .f32 0#32 : EReal) = 0 := by
    show (((0#32 : BitVec 32).toInt : ℝ) : EReal) = 0
    simp
  exact (congrArg _ h).trans (sub_zero _)

theorem spreadV_at (u : FVec Ideal S8192x128x1 .f32) (n : Fin 8192) :
    spreadV u freeV (ix3 n 0 0) = mean (fun c => u (ix3 n c 0) * u (ix3 n c 0)) + small := by
  pointwise [spreadV, mean, small]
  rw [freeV_at, if_pos (by rw [width_eq]; exact_mod_cast (by norm_num : (0 : ℝ) < 128))]

theorem normV_at (y : FVec Ideal S8192x128x3 .f32) (z u : FVec Ideal S8192x128x1 .f32) (v : FVec Ideal S8192x1x1 .f32)
    (g b : FVec Ideal S128 .f32) (n : Fin 8192) (c : Fin 128) (d : Fin 3) :
    normV y z u v g b (ix3 n c d)
      = Ideal.div (y (ix3 n c d)) (z (ix3 n c 0) + small) * (Ideal.div (u (ix3 n c 0)) (Ideal.sqrt (v (ix3 n 0 0))) * g (ix1 c) + b (ix1 c)) := by
  pointwise [normV, small]

theorem normedV_at (y : FVec Ideal S8192x128x3 .f32) (g b : FVec Ideal S128 .f32) (n : Fin 8192) :
    rowAt (normedV y g b) n = normR (rowAt y n) (fun c => g (ix1 c)) (fun c => b (ix1 c)) := by
  funext d c
  show normedV y g b (ix3 n c d) = _
  unfold normedV
  rw [normV_at, spreadV_at, devV_at]
  simp only [devV_at, lenV_at]
  rfl

/-- Every row times a feed-forward weight. -/
def widenV (y : FVec Ideal S8192x128x3 .f32) (w : FVec Ideal S512x128 .f32) : FVec Ideal S8192x512x3 .f32 :=
  transpose S8192x512x3 [0, 2, 1] (Host.dotGeneral dot_S8192x128x3_S512x128_S8192x3x512_1_1_02_0_n_n none y w)
    transposes_S8192x3x512_S8192x512x3_0_2_1

/-- The products of the rows with their directions. -/
def alongV (a b : FVec Ideal S8192x512x3 .f32) : FVec Ideal S8192x512x1 .f32 :=
  broadcastInDim S8192x512x1 ![0, 1] bcast_S8192x512_S8192x512x1_0_1
    (Host.reduceAdd (mulf a b) (constant S_ .f32 0x00000000#32) reducesTo_S8192x512x3_S8192x512_d2 h_S_)

/-- The rectified rows. -/
def rectV (a b : FVec Ideal S8192x512x3 .f32) (t : FVec Ideal S8192x512x1 .f32) : FVec Ideal S8192x512x3 .f32 :=
  select (broadcastInDim S8192x512x3 ![0, 1, 2] bcast_S8192x512x1_S8192x512x3_0_1_2
      (cmpf .oge t (broadcastInDim S8192x512x1 ![] bcast_S_S8192x512x1 (constant S_ .f32 0x00000000#32)))) a
    (subf a (mulf (broadcastInDim S8192x512x3 ![0, 1, 2] bcast_S8192x512x1_S8192x512x3_0_1_2
      (Host.divf t (addf (broadcastInDim S8192x512x1 ![0, 1] bcast_S8192x512_S8192x512x1_0_1
          (Host.reduceAdd (mulf b b) (constant S_ .f32 0x00000000#32) reducesTo_S8192x512x3_S8192x512_d2 h_S_))
        (broadcastInDim S8192x512x1 ![] bcast_S_S8192x512x1 (constant S_ .f32 0x358637BD#32))))) b))

/-- The feed-forward layer's second product, added to its input. -/
def feedV (y : FVec Ideal S8192x128x3 .f32) (z : FVec Ideal S8192x512x3 .f32) (w : FVec Ideal S128x512 .f32) : FVec Ideal S8192x128x3 .f32 :=
  addf y (transpose S8192x128x3 [0, 2, 1] (Host.dotGeneral dot_S8192x512x3_S128x512_S8192x3x128_1_1_02_0_n_n none z w)
    transposes_S8192x3x128_S8192x128x3_0_2_1)

theorem widenV_at (y : FVec Ideal S8192x128x3 .f32) (w : FVec Ideal S512x128 .f32) (n : Fin 8192) (e : Fin 512) (d : Fin 3) :
    widenV y w (ix3 n e d) = wide (rowAt y n d) (fun e c => w (ix2 e c)) e := by
  pointwise [widenV, wide, rowAt]

theorem alongV_at (a b : FVec Ideal S8192x512x3 .f32) (n : Fin 8192) (e : Fin 512) :
    alongV a b (ix3 n e 0) = a (ix3 n e 0) * b (ix3 n e 0) + a (ix3 n e 1) * b (ix3 n e 1) + a (ix3 n e 2) * b (ix3 n e 2) := by
  pointwise [alongV]
  rw [Fin.sum_univ_three]

theorem rectV_at (a b : FVec Ideal S8192x512x3 .f32) (t : FVec Ideal S8192x512x1 .f32) (n : Fin 8192) (e : Fin 512) (d : Fin 3) :
    rectV a b t (ix3 n e d)
      = if 0 ≤ t (ix3 n e 0) then a (ix3 n e d)
        else a (ix3 n e d) - Ideal.div (t (ix3 n e 0)) (b (ix3 n e 0) * b (ix3 n e 0) + b (ix3 n e 1) * b (ix3 n e 1)
          + b (ix3 n e 2) * b (ix3 n e 2) + small) * b (ix3 n e d) := by
  pointwise [rectV, small]
  rw [Fin.sum_univ_three]

theorem feedV_at (y : FVec Ideal S8192x128x3 .f32) (z : FVec Ideal S8192x512x3 .f32) (w : FVec Ideal S128x512 .f32) (n : Fin 8192)
    (c : Fin 128) (d : Fin 3) : feedV y z w (ix3 n c d) = y (ix3 n c d) + ∑ e, z (ix3 n e d) * w (ix2 c e) := by
  pointwise [feedV]

end Cert.Proof.Ref
-- ==== Proof.Reference.lean ====
/- What the reference computes, row by row. -/
module

public import proofs.«01_k».proof.Proof.Gen.ReferenceIdeal.Run
public import proofs.«01_k».proof.Proof.RefLayers
public import proofs.«01_k».proof.Proof.Args

@[expose] public section

set_option maxRecDepth 16384
set_option maxHeartbeats 2000000

noncomputable section

namespace Cert.Proof.Ref

open Idealize.ShloMosaic Idealize.ShloMosaic.TcCoe Idealize.SL.Sem
open Cert.ReferenceIdeal Cert.ReferenceIdeal.Gen Cert.ReferenceIdeal.Value

/-! ## The attention, at a row -/

/-- A sum over the channels, head by head. -/
theorem sum_chan (f : Fin 128 → EReal) : ∑ o, f o = ∑ h : Fin 8, ∑ c : Fin 16, f (chan h c) := by
  rw [← Fintype.sum_prod_type' (f := fun h c => f (chan h c))]
  refine (Equiv.sum_comp (finProdFinEquiv (m := 8) (n := 16)) f).symm.trans ?_
  refine Finset.sum_congr rfl fun p _ => congrArg f (Fin.ext ?_)
  obtain ⟨h, c⟩ := p
  show c.val + 16 * h.val = h.val * 16 + c.val
  omega

/-- Only what the indices name counts. -/
theorem headR_congr (valid : Fin 16 → Prop) [DecidablePred valid] (s s' v v' : Fin 16 → EReal)
    (hs : ∀ l, valid l → s l = s' l) (hv : ∀ l, valid l → v l = v' l) : headR valid s v = headR valid s' v' := by
  have e : masked valid s = masked valid s' := by
    funext l
    unfold masked
    by_cases hl : valid l
    · rw [if_pos hl, if_pos hl, hs l hl]
    · rw [if_neg hl, if_neg hl]
  unfold headR weightR
  rw [e]
  refine Finset.sum_congr rfl fun l _ => ?_
  by_cases hl : valid l
  · rw [hv l hl]
  · rw [if_neg hl, zero_mul, zero_mul]

/-- The rows after the attention. -/
def attendedV (x : FVec Ideal S8192x128x3 .f32) (i idx : IVec S8192x16 32) (wq wk wv wo : FVec Ideal S128x128 .f32) :
    FVec Ideal S8192x128x3 .f32 :=
  addf x (linV (valueV (weightsV i (expV (scoresV i (rawV (headsV (linV x wq)) (takenV (linV x wk) idx)))))
    (takenV (linV x wv) idx)) wo)

/-- The attention at a row: that of the row's sequence. -/
theorem attendedV_at (x : FVec Ideal S8192x128x3 .f32) (i idx : IVec S8192x16 32) (wq wk wv wo : FVec Ideal S128x128 .f32)
    (b : Fin 8) (r : Fin 1024)
    (hidx : ∀ l, names (rowIdx i (rowOf b r)) l →
      min (idx (ix2 (rowOf b r) l)).toInt.toNat 8191 = (rowOf b (keyOf (rowIdx i (rowOf b r)) l)).val) :
    rowAt (attendedV x i idx wq wk wv wo) (rowOf b r)
      = attendR (headsOf wq wk wv wo) root (fun j => rowAt x (rowOf b j)) (rowIdx i (rowOf b r)) r := by
  have hl : ∀ (w : FVec Ideal S128x128 .f32) (n : Fin 8192) (o : Fin 128) (d : Fin 3),
      linV x w (ix3 n o d) = lin (fun o c => w (ix2 o c)) (rowAt x n) o d := fun w n o d => linV_at x w n o d
  have ht : ∀ (w : FVec Ideal S128x128 .f32) (l : Fin 16) (h : Fin 8) (c : Fin 16) (d : Fin 3),
      names (rowIdx i (rowOf b r)) l → takenV (linV x w) idx (ix5 (rowOf b r) l h c d)
        = lin (fun o c => w (ix2 o c)) (rowAt x (rowOf b (keyOf (rowIdx i (rowOf b r)) l))) (chan h c) d := fun w l h c d hn => by
    rw [takenV_at, ← hl]
    exact congrArg (fun n => linV x w (ix3 n (chan h c) d)) (Fin.ext (hidx l hn))
  have hval : ∀ (h : Fin 8) (c : Fin 16) (d : Fin 3),
      valueV (weightsV i (expV (scoresV i (rawV (headsV (linV x wq)) (takenV (linV x wk) idx))))) (takenV (linV x wv) idx)
        (ix3 (rowOf b r) (chan h c) d)
      = headR (names (rowIdx i (rowOf b r)))
          (fun l => Ideal.div (rawScore (headsOf wq wk wv wo) (fun j => rowAt x (rowOf b j)) r (keyOf (rowIdx i (rowOf b r)) l) h) root)
          (fun l => lin (fun o c => wv (ix2 o c)) (rowAt x (rowOf b (keyOf (rowIdx i (rowOf b r)) l))) (chan h c) d) := fun h c d => by
    rw [valueV_at]
    refine Eq.trans ?_ (headR_congr _
      (fun l => Ideal.div (rawV (headsV (linV x wq)) (takenV (linV x wk) idx) (ix3 (rowOf b r) h l)) root) _
      (fun l => takenV (linV x wv) idx (ix5 (rowOf b r) l h c d)) _ (fun l hn => ?_) fun l hn => ht wv l h c d hn)
    · unfold headR weightR
      simp only [weightsV_at, expV_at, scoresV_at]
    · rw [rawV_at]
      refine congrArg (fun z => Ideal.div z root) ?_
      unfold rawScore dotHead
      refine Finset.sum_congr rfl fun c _ => Finset.sum_congr rfl fun d _ => ?_
      rw [headsV_at, hl, ht wk l h c d hn]
      rfl
  funext d o
  show x (ix3 (rowOf b r) o d) + linV _ wo (ix3 (rowOf b r) o d) = _
  rw [linV_at, sum_chan]
  simp only [hval]
  rfl

/-! ## The reference, at a row -/

variable (V : Valuation τ sig (Elt Ideal))

/-- The rows after the attention, as the program writes them. -/
theorem v64_eq : (res_main_v64 V : FVec Ideal S8192x128x3 .f32)
    = attendedV (res_main_v0 V) (V (Proc.devRef .tc main_arg1))
        (wrapV (offsetV (V (Proc.devRef .tc main_arg1)) (startsV (V (Proc.devRef .tc main_arg3)) (V (Proc.devRef .tc main_arg4)))))
        (V (Proc.devRef .tc main_arg5)) (V (Proc.devRef .tc main_arg6)) (V (Proc.devRef .tc main_arg7)) (V (Proc.devRef .tc main_arg8)) := rfl

theorem v89_eq : (res_main_v89 V : FVec Ideal S8192x128x3 .f32)
    = normedV (res_main_v64 V) (V (Proc.devRef .tc main_arg9)) (V (Proc.devRef .tc main_arg10)) := rfl

/-- The feed-forward layer, as the program writes it. -/
theorem v111_eq : (res_main_v111 V : FVec Ideal S8192x128x3 .f32)
    = feedV (res_main_v89 V) (rectV (widenV (res_main_v89 V) (V (Proc.devRef .tc main_arg11)))
        (widenV (res_main_v89 V) (V (Proc.devRef .tc main_arg12)))
        (alongV (widenV (res_main_v89 V) (V (Proc.devRef .tc main_arg11))) (widenV (res_main_v89 V) (V (Proc.devRef .tc main_arg12)))))
        (V (Proc.devRef .tc main_arg13)) := rfl

/-- The rows, by channel and component. -/
theorem v0_rows (b : Fin 8) : (fun j => rowAt (res_main_v0 V) (rowOf b j)) = batchRows (V (Proc.devRef .tc main_arg0)) b := by
  funext j d k
  show shapeCast S8192x128x3 (V (Proc.devRef .tc main_arg0)) shapeCasts_S8192x384_S8192x128x3 (ix3 (rowOf b j) k d) = _
  pointwise
  rfl

/-- The feed-forward layer at a row. -/
theorem feed_row (u : FVec Ideal S8192x128x3 .f32) (w wd : FVec Ideal S512x128 .f32) (w2 : FVec Ideal S128x512 .f32) (n : Fin 8192) :
    rowAt (feedV u (rectV (widenV u w) (widenV u wd) (alongV (widenV u w) (widenV u wd))) w2) n
      = feed (rowAt u n) (rectR (rowAt u n) (fun e c => w (ix2 e c)) fun e c => wd (ix2 e c)) fun o e => w2 (ix2 o e) := by
  funext d c
  show feedV _ _ _ (ix3 n c d) = _
  rw [feedV_at]
  simp only [rectV_at, alongV_at, widenV_at]
  rfl

/-- The last vector at a row, every sequence being of 1024 rows. -/
theorem last_row (hcnt : ∀ b : Fin 8, (V (Proc.devRef .tc main_arg3) : IVec S8 32) (ix1 b) = 1024#32)
    (hbat : ∀ (b : Fin 8) (r : Fin 1024), (V (Proc.devRef .tc main_arg4) : IVec S8192 32) (ix1 (rowOf b r)) = BitVec.ofNat 32 b.val)
    (hx : ∀ n l, ((V (Proc.devRef .tc main_arg1) : IVec S8192x16 32) (ix2 n l)).toInt < 1024) (b : Fin 8) (r : Fin 1024) :
    rowAt (normedV (res_main_v111 V) (V (Proc.devRef .tc main_arg14)) (V (Proc.devRef .tc main_arg15))) (rowOf b r)
      = layersR (paramsOf (V (Proc.devRef .tc main_arg9)) (V (Proc.devRef .tc main_arg10)) (V (Proc.devRef .tc main_arg11))
          (V (Proc.devRef .tc main_arg12)) (V (Proc.devRef .tc main_arg13)) (V (Proc.devRef .tc main_arg14)) (V (Proc.devRef .tc main_arg15)))
        (attendR (headsOf (V (Proc.devRef .tc main_arg5)) (V (Proc.devRef .tc main_arg6)) (V (Proc.devRef .tc main_arg7))
            (V (Proc.devRef .tc main_arg8))) root (batchRows (V (Proc.devRef .tc main_arg0)) b)
          (rowIdx (V (Proc.devRef .tc main_arg1)) (rowOf b r)) r) := by
  rw [normedV_at, v111_eq, feed_row, v89_eq, normedV_at, v64_eq, attendedV_at _ _ _ _ _ _ _ b r fun l hn =>
    wrap_offset_at _ _ b (rowOf b r) l (startsV_at _ _ hcnt b _ (hbat b r)) hn (hx _ l), v0_rows]
  rfl

end Cert.Proof.Ref
-- ==== Proof.Equation.lean ====
/- The equation: the kernel's result is the reference's. -/
module

public import proofs.«01_k».proof.Proof.Run
public import proofs.«01_k».proof.Proof.Reference

@[expose] public section

set_option maxRecDepth 16384
set_option maxHeartbeats 2000000

noncomputable section

namespace Cert.Proof

open Idealize.ShloMosaic Idealize.ShloMosaic.TcCoe Idealize.SL.Sem
open Cert.KernelIdeal Cert.KernelIdeal.Gen

/-- The kernel's factor is one over the square root of 48. -/
theorem factor_eq : factor = (((Real.sqrt 48)⁻¹ : ℝ) : EReal) := rfl

/-- The reference's root is that of 48. -/
theorem root_eq : Ref.root = ((Real.sqrt 48 : ℝ) : EReal) := by
  have h : Ideal.ofBits .f32 0x42400000#32 = ((48 : ℝ) : EReal) := by
    simp [Ideal.ofBits, Ideal.ieee, -EReal.coe_mul]
    norm_num
  rw [Ref.root, h]
  show (if (48 : ℝ) < 0 then ⊥ else ((Real.sqrt 48 : ℝ) : EReal)) = _
  rw [if_neg (by norm_num)]

variable (m : (ℓ : Loc nD τ sig) → Buf (Elt Ideal) ℓ) (c : Dev nD)

/-- A row of the kernel's is the reference's. -/
theorem kernelRow_eq (b : Fin 8) (r : Fin 1024)
    (hb : ∀ j h, max (rawScore (headsK m c) (batchRows (m ((c.tc : Thread nD τ).loc main_arg0)) b) r j h)
      (-rawScore (headsK m c) (batchRows (m ((c.tc : Thread nD τ).loc main_arg0)) b) r j h) ≤ ((235 : ℝ) : EReal)) :
    kernelRow m c b r = layersR (paramsK m c) (attendR (headsK m c) Ref.root (batchRows (m ((c.tc : Thread nD τ).loc main_arg0)) b)
      (Ref.rowIdx (m ((c.tc : Thread nD τ).loc main_arg1)) (Ref.rowOf b r)) r) := by
  unfold kernelRow
  rw [layers_eq, factor_eq, root_eq, attend_eq _ _ _ _ hb]

/-- The reference's last vector, its channels and components side by side. -/
def resultR (V : Valuation Cert.ReferenceIdeal.τ Cert.ReferenceIdeal.sig (Elt Ideal)) : FVec Ideal S8192x384 .f32 :=
  shapeCast S8192x384 (Ref.normedV (Cert.ReferenceIdeal.Value.res_main_v111 V) (V (Proc.devRef .tc Cert.ReferenceIdeal.main_arg14))
    (V (Proc.devRef .tc Cert.ReferenceIdeal.main_arg15))) shapeCasts_S8192x128x3_S8192x384

theorem resultR_at (V : Valuation Cert.ReferenceIdeal.τ Cert.ReferenceIdeal.sig (Elt Ideal)) (n : Fin 8192) (o : Fin 128) (d : Fin 3) :
    resultR V (ix2 n ⟨o.val * 3 + d.val, by omega⟩)
      = Ref.rowAt (Ref.normedV (Cert.ReferenceIdeal.Value.res_main_v111 V) (V (Proc.devRef .tc Cert.ReferenceIdeal.main_arg14))
          (V (Proc.devRef .tc Cert.ReferenceIdeal.main_arg15))) n d o := by
  unfold resultR Ref.rowAt
  generalize Ref.normedV _ _ _ = y
  pointwise

/-- On equal arguments, of sequences of 1024 rows, the two results are equal. -/
theorem result_eq (V : Valuation Cert.ReferenceIdeal.τ Cert.ReferenceIdeal.sig (Elt Ideal))
    (h0 : V (Proc.devRef .tc Cert.ReferenceIdeal.main_arg0) = m ((c.tc : Thread nD τ).loc main_arg0))
    (h1 : V (Proc.devRef .tc Cert.ReferenceIdeal.main_arg1) = m ((c.tc : Thread nD τ).loc main_arg1))
    (h3 : V (Proc.devRef .tc Cert.ReferenceIdeal.main_arg3) = m ((c.tc : Thread nD τ).loc main_arg3))
    (h4 : V (Proc.devRef .tc Cert.ReferenceIdeal.main_arg4) = m ((c.tc : Thread nD τ).loc main_arg4))
    (h5 : V (Proc.devRef .tc Cert.ReferenceIdeal.main_arg5) = m ((c.tc : Thread nD τ).loc main_arg5))
    (h6 : V (Proc.devRef .tc Cert.ReferenceIdeal.main_arg6) = m ((c.tc : Thread nD τ).loc main_arg6))
    (h7 : V (Proc.devRef .tc Cert.ReferenceIdeal.main_arg7) = m ((c.tc : Thread nD τ).loc main_arg7))
    (h8 : V (Proc.devRef .tc Cert.ReferenceIdeal.main_arg8) = m ((c.tc : Thread nD τ).loc main_arg8))
    (h9 : V (Proc.devRef .tc Cert.ReferenceIdeal.main_arg9) = m ((c.tc : Thread nD τ).loc main_arg9))
    (h10 : V (Proc.devRef .tc Cert.ReferenceIdeal.main_arg10) = m ((c.tc : Thread nD τ).loc main_arg10))
    (h11 : V (Proc.devRef .tc Cert.ReferenceIdeal.main_arg11) = m ((c.tc : Thread nD τ).loc main_arg11))
    (h12 : V (Proc.devRef .tc Cert.ReferenceIdeal.main_arg12) = m ((c.tc : Thread nD τ).loc main_arg12))
    (h13 : V (Proc.devRef .tc Cert.ReferenceIdeal.main_arg13) = m ((c.tc : Thread nD τ).loc main_arg13))
    (h14 : V (Proc.devRef .tc Cert.ReferenceIdeal.main_arg14) = m ((c.tc : Thread nD τ).loc main_arg14))
    (h15 : V (Proc.devRef .tc Cert.ReferenceIdeal.main_arg15) = m ((c.tc : Thread nD τ).loc main_arg15))
    (hx : ∀ n l, (m ((c.tc : Thread nD τ).loc main_arg1) (ix2 n l) : BitVec 32).toInt < 1024)
    (hcnt : ∀ b : Fin 8, (m ((c.tc : Thread nD τ).loc main_arg3) (ix1 b) : BitVec 32) = 1024#32)
    (hbat : ∀ (b : Fin 8) (r : Fin 1024), (m ((c.tc : Thread nD τ).loc main_arg4) (ix1 (Ref.rowOf b r)) : BitVec 32) = BitVec.ofNat 32 b.val)
    (hb : ∀ b h r j, max (rawScore (headsK m c) (batchRows (m ((c.tc : Thread nD τ).loc main_arg0)) b) r j h)
      (-rawScore (headsK m c) (batchRows (m ((c.tc : Thread nD τ).loc main_arg0)) b) r j h) ≤ ((235 : ℝ) : EReal)) :
    resultR V = resultK m c := by
  have hrow : ∀ (b : Fin 8) (r : Fin 1024) (o : Fin 128) (d : Fin 3),
      resultR V (ix2 (Ref.rowOf b r) ⟨o.val * 3 + d.val, by omega⟩) = resultK m c (ix2 (Ref.rowOf b r) ⟨o.val * 3 + d.val, by omega⟩) := by
    intro b r o d
    rw [resultR_at, resultK_at, kernelRow_eq m c b r fun j h => hb b h r j]
    refine (congrFun (congrFun (Ref.last_row V ?_ ?_ ?_ b r) d) o).trans ?_
    · rw [h3]; exact hcnt
    · rw [h4]; exact hbat
    · rw [h1]; exact hx
    · rw [h0, h1, h5, h6, h7, h8, h9, h10, h11, h12, h13, h14, h15]
  funext i
  have hi0 : (i 0).val < 8192 := (i 0).isLt
  have hi1 : (i 1).val < 384 := (i 1).isLt
  have e : i = ix2 (Ref.rowOf ⟨(i 0).val / 1024, by omega⟩ ⟨(i 0).val % 1024, by omega⟩)
      ⟨(⟨(i 1).val / 3, by omega⟩ : Fin 128).val * 3 + (⟨(i 1).val % 3, by omega⟩ : Fin 3).val, by dsimp only; omega⟩ := by
    funext a
    refine Fin.ext ?_
    match a with
    | ⟨0, _⟩ => show (i 0).val = (i 0).val / 1024 * 1024 + (i 0).val % 1024; omega
    | ⟨1, _⟩ => show (i 1).val = (i 1).val / 3 * 3 + (i 1).val % 3; omega
  rw [e]
  exact hrow _ _ _ _

end Cert.Proof
-- ==== Proof.Precond.lean ====
/- What the precondition says of the arguments. -/
module

public import proofs.«01_k».proof.Pre_draws
public import proofs.«01_k».proof.Proof.Gen.Pre_draws
public import proofs.«01_k».proof.Proof.Args
public import Idealize.ShloMosaic.Lib.Pointwise

@[expose] public section

set_option maxRecDepth 16384
set_option maxHeartbeats 2000000

noncomputable section

namespace Cert.Proof.Pre

open Idealize.ShloMosaic Idealize.ShloMosaic.TcCoe Idealize.SL.Sem
open Cert.Pre_draws Cert.Pre_draws.Gen

/-- The products of the queries and the keys of every sequence. -/
def scoresP (x : FVec Ideal S8192x384 .f32) (wq wk : FVec Ideal S128x128 .f32) : FVec Ideal S8x8x1024x1024 .f32 :=
  Host.dotGeneral dot_S8x1024x8x16x3_S8x1024x8x16x3_S8x8x1024x1024_34_34_1_1_02_02 none
    (shapeCast S8x1024x8x16x3 (transpose S8192x128x3 [0, 2, 1] (Host.dotGeneral dot_S8192x128x3_S128x128_S8192x3x128_1_1_02_0_n_n none
      (shapeCast S8192x128x3 x shapeCasts_S8192x384_S8192x128x3) wq) transposes_S8192x3x128_S8192x128x3_0_2_1) shapeCasts_S8192x128x3_S8x1024x8x16x3)
    (shapeCast S8x1024x8x16x3 (transpose S8192x128x3 [0, 2, 1] (Host.dotGeneral dot_S8192x128x3_S128x128_S8192x3x128_1_1_02_0_n_n none
      (shapeCast S8192x128x3 x shapeCasts_S8192x384_S8192x128x3) wk) transposes_S8192x3x128_S8192x128x3_0_2_1) shapeCasts_S8192x128x3_S8x1024x8x16x3)

/-- One of them is the product of its row's query and its key. -/
theorem scoresP_at (x : FVec Ideal S8192x384 .f32) (wq wk wv wo : FVec Ideal S128x128 .f32) (b h : Fin 8) (r j : Fin 1024) :
    scoresP x wq wk (ix4 b h r j) = rawScore (headsOf wq wk wv wo) (batchRows x b) r j h := by
  pointwise [scoresP]
  rfl

/-- The sequence a row belongs to. -/
theorem floor_at (n : Fin 8192) :
    fn_floor_divide (F := Ideal) (iotaInDim S8192 32 0) (constantI S_ 32 1024#32) (ix1 n) = BitVec.ofNat 32 (n.val / 1024) := by
  pointwise [fn_floor_divide, fn_where]
  revert n
  decide +kernel

/-- A magnitude that passes the comparison is at most the bound. -/
theorem ole_at (a b : FVec Ideal S8x8x1024x1024 .f32) (i) (h : cmpf .ole (Host.absf a) b i = 1#1) : max (a i) (-a i) ≤ b i := by
  pointwise at h
  change BitVec.ofBool (decide (max (a i) (-a i) ≤ b i)) = 1#1 at h
  by_contra hn
  rw [decide_eq_false hn] at h
  exact absurd h (by decide)

theorem bound_eq : Ideal.ofBits .f32 0x436B0000#32 = ((235 : ℝ) : EReal) := by
  simp [Ideal.ofBits, Ideal.ieee, -EReal.coe_mul]
  norm_num

/-- What the four tests say, all of them passing. -/
theorem fn_says (x0 : FVec Ideal S8192x384 .f32) (x1 : IVec S8192x16 32) (x2 x3 : IVec S8 32) (x4 : IVec S8192 32)
    (x5 x6 x7 x8 : FVec Ideal S128x128 .f32) (x9 x10 : FVec Ideal S128 .f32) (x11 x12 : FVec Ideal S512x128 .f32)
    (x13 : FVec Ideal S128x512 .f32) (x14 x15 : FVec Ideal S128 .f32)
    (h : (fn x0 x1 x2 x3 x4 x5 x6 x7 x8 x9 x10 x11 x12 x13 x14 x15).1 = (fun _ => 1#1)
      ∧ (fn x0 x1 x2 x3 x4 x5 x6 x7 x8 x9 x10 x11 x12 x13 x14 x15).2.1 = (fun _ => 1#1)
      ∧ (fn x0 x1 x2 x3 x4 x5 x6 x7 x8 x9 x10 x11 x12 x13 x14 x15).2.2.1 = (fun _ => 1#1)
      ∧ (fn x0 x1 x2 x3 x4 x5 x6 x7 x8 x9 x10 x11 x12 x13 x14 x15).2.2.2 = (fun _ => 1#1)) :
    (∀ n l, (x1 (ix2 n l)).toInt < 1024) ∧ (∀ b : Fin 8, x3 (ix1 b) = 1024#32)
      ∧ (∀ (b : Fin 8) (r : Fin 1024), x4 (ix1 (Ref.rowOf b r)) = BitVec.ofNat 32 b.val)
      ∧ ∀ (b h : Fin 8) (r j : Fin 1024), max (rawScore (headsOf x5 x6 x7 x8) (batchRows x0 b) r j h)
          (-rawScore (headsOf x5 x6 x7 x8) (batchRows x0 b) r j h) ≤ ((235 : ℝ) : EReal) := by
  obtain ⟨h1, h2, h3, h4⟩ := h
  refine ⟨fun n l => ?_, fun b => ?_, fun b r => ?_, fun b h r j => ?_⟩
  · have e : IntOp.cmpi .slt (x1 (ix2 n l)) 1024#32 = 1#1 := congrFun h1 (ix2 n l)
    exact IntOp.cmpi_slt.mp e
  · have e : IntOp.cmpi .eq (x3 (ix1 b)) 1024#32 = 1#1 := congrFun h2 (ix1 b)
    exact IntOp.cmpi_eq.mp e
  · have e : IntOp.cmpi .eq (x4 (ix1 (Ref.rowOf b r)))
        (fn_floor_divide (F := Ideal) (iotaInDim S8192 32 0) (constantI S_ 32 1024#32) (ix1 (Ref.rowOf b r))) = 1#1 :=
      congrFun h3 (ix1 (Ref.rowOf b r))
    rw [IntOp.cmpi_eq.mp e, floor_at]
    exact congrArg _ (show (b.val * 1024 + r.val) / 1024 = b.val by omega)
  · rw [← scoresP_at, ← bound_eq]
    exact ole_at (scoresP x0 x5 x6) _ _ (congrFun h4 (ix4 b h r j))

end Cert.Proof.Pre
-- ==== Proof.lean ====
/- The claim: the frames, the kernel's idealization, and the equation of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_draws
public import proofs.«01_k».proof.Proof.Gen.ReferenceIdeal.Run
public import proofs.«01_k».proof.Proof.Equation
public import proofs.«01_k».proof.Proof.Precond
public import Idealize.ShloMosaic.Lib.Quiescent
public import Idealize.ShloMosaic.Adequacy
public import Idealize.ShloMosaic.Init

@[expose] public section

set_option maxRecDepth 16384
set_option maxHeartbeats 2000000

noncomputable section

namespace Cert.Proof

open Idealize.ShloMosaic Idealize.ShloMosaic.TcCoe Idealize.SL.Sem

/-- The reference runs to its end, its arguments unchanged and its counters at zero. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The two programs leave the same result. -/
theorem equation : Cert.algebraic_KernelIdeal_ReferenceIdeal_pre_draws := by
  intro m g m' g' hpre hargs
  have hp := fun c => Pre.fn_says _ _ _ _ _ _ _ _ _ _ _ _ _ _ _ _ (hpre c)
  refine ⟨fun c => resultK m c, run m g fun c => (hp c).1, ?_⟩
  refine (θ_run Cert.ReferenceIdeal.defs _ _).mono (fun r h c => ⟨(h c).1.trans ?_, (h c).2⟩)
    (Cert.ReferenceIdeal.Value.run (F := Ideal) m' g')
  obtain ⟨h0, h1, h2, h3, h4, h5, h6, h7, h8, h9, h10, h11, h12, h13, h14, h15⟩ := hargs c
  obtain ⟨hx, hcnt, hbat, hb⟩ := hp c
  exact result_eq m c (StableHlo.launchContents m' c) h0 h1 h3 h4 h5 h6 h7 h8 h9 h10 h11 h12 h13 h14 h15 hx hcnt hbat hb

theorem claim : Cert.Claim := ⟨Cert.Kernel.Gen.facts, Cert.KernelIdeal.Gen.facts, Cert.ReferenceIdeal.Gen.facts, Cert.Pre_draws.Gen.facts,
  fun m ρ _ => Cert.Kernel.Gen.frame m ρ,
  fun m ρ _ => Cert.KernelIdeal.Gen.frame m ρ,
  fun m ρ _ => Cert.KernelIdeal.Gen.frame m ρ,
  fun m ρ _ => reference_run m ρ,
  fun m ρ _ => reference_run m ρ,
  IdealRules.named_const.statement _ _ _ _ _ rfl,
  equation⟩

end Cert.Proof

end
